-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x20x640x160 : Shape := ⟨4, ![3, 20, 640, 160]⟩
abbrev S3x20x640x320 : Shape := ⟨4, ![3, 20, 640, 320]⟩
abbrev S3x20x5 : Shape := ⟨3, ![3, 20, 5]⟩
abbrev S3x20x640 : Shape := ⟨3, ![3, 20, 640]⟩
abbrev S_ : Shape := ⟨0, ![]⟩

class Facts : Prop where
  natLt_8_32 : 8 < 32
  bcast_S_S3x20x640x160 : S_.BroadcastsInDim S3x20x640x160 (![] : Fin 0 → Fin S3x20x640x160.rank)
  bcast_S_S3x20x640x320 : S_.BroadcastsInDim S3x20x640x320 (![] : Fin 0 → Fin S3x20x640x320.rank)
  reducesTo_S3x20x640x160_S_d0_1_2_3 : S3x20x640x160.ReducesTo [0, 1, 2, 3] S_
  h_S_ : 0 < S_.numel
  reducesTo_S3x20x640x320_S_d0_1_2_3 : S3x20x640x320.ReducesTo [0, 1, 2, 3] S_
  bcast_S_S3x20x5 : S_.BroadcastsInDim S3x20x5 (![] : Fin 0 → Fin S3x20x5.rank)
  reducesTo_S3x20x5_S_d0_1_2 : S3x20x5.ReducesTo [0, 1, 2] S_
  bcast_S_S3x20x640 : S_.BroadcastsInDim S3x20x640 (![] : Fin 0 → Fin S3x20x640.rank)
  reducesTo_S3x20x640_S_d0_1_2 : S3x20x640.ReducesTo [0, 1, 2] S_

variable [Facts]

def fn_part2 {F : FTy → Type} [FloatOps F] (main_arg6 : FVec F S3x20x5 .f32) (main_arg7 : FVec F S3x20x640 .f32) (main_v14 : IVec S_ 1) (main_v17 : IVec S_ 1) (main_v20 : IVec S_ 1) (main_v23 : IVec S_ 1) (main_v27 : IVec S_ 1) (main_v31 : IVec S_ 1) : IVec S_ 1 :=
  let main_v32 : FVec F S3x20x5 .f32 := Host.absf main_arg6
  let main_cst_14 : FVec F S_ .f32 := constant S_ .f32 0x7F800000#32
  let main_v33 : FVec F S3x20x5 .f32 := broadcastInDim S3x20x5 ![] bcast_S_S3x20x5 main_cst_14
  let main_v34 : IVec S3x20x5 1 := cmpf .olt main_v32 main_v33
  let main_c_15 : IVec S_ 1 := constantI S_ 1 1#1
  let main_v35 : IVec S_ 1 := (fun x v => Host.reduce IntOp.andi x v reducesTo_S3x20x5_S_d0_1_2 h_S_) main_v34 main_c_15
  let main_v36 : FVec F S3x20x640 .f32 := Host.absf main_arg7
  let main_cst_16 : FVec F S_ .f32 := constant S_ .f32 0x7F800000#32
  let main_v37 : FVec F S3x20x640 .f32 := broadcastInDim S3x20x640 ![] bcast_S_S3x20x640 main_cst_16
  let main_v38 : IVec S3x20x640 1 := cmpf .olt main_v36 main_v37
  let main_c_17 : IVec S_ 1 := constantI S_ 1 1#1
  let main_v39 : IVec S_ 1 := (fun x v => Host.reduce IntOp.andi x v reducesTo_S3x20x640_S_d0_1_2 h_S_) main_v38 main_c_17
  let main_v40 : IVec S_ 1 := andi main_v14 main_v17
  let main_v41 : IVec S_ 1 := andi main_v40 main_v20
  let main_v42 : IVec S_ 1 := andi main_v41 main_v23
  let main_v43 : IVec S_ 1 := andi main_v42 main_v27
  let main_v44 : IVec S_ 1 := andi main_v43 main_v31
  let main_v45 : IVec S_ 1 := andi main_v44 main_v35
  let main_v46 : IVec S_ 1 := andi main_v45 main_v39
  main_v46

def fn_part1 {F : FTy → Type} [FloatOps F] (main_arg4 : FVec F S3x20x5 .f32) (main_arg5 : FVec F S3x20x5 .f32) (main_arg6 : FVec F S3x20x5 .f32) (main_arg7 : FVec F S3x20x640 .f32) (main_v8 : IVec S3x20x640x320 32) (main_v11 : IVec S3x20x640x320 32) (main_v14 : IVec S_ 1) (main_v16 : IVec S3x20x640x160 1) : IVec S_ 1 :=
  let main_c_6 : IVec S_ 1 := constantI S_ 1 1#1
  let main_v17 : IVec S_ 1 := (fun x v => Host.reduce IntOp.andi x v reducesTo_S3x20x640x160_S_d0_1_2_3 h_S_) main_v16 main_c_6
  let main_c_7 : IVec S_ 32 := constantI S_ 32 127#32
  let main_v18 : IVec S3x20x640x320 32 := broadcastInDim S3x20x640x320 ![] bcast_S_S3x20x640x320 main_c_7
  let main_v19 : IVec S3x20x640x320 1 := cmpi .slt main_v8 main_v18
  let main_c_8 : IVec S_ 1 := constantI S_ 1 1#1
  let main_v20 : IVec S_ 1 := (fun x v => Host.reduce IntOp.andi x v reducesTo_S3x20x640x320_S_d0_1_2_3 h_S_) main_v19 main_c_8
  let main_c_9 : IVec S_ 32 := constantI S_ 32 124#32
  let main_v21 : IVec S3x20x640x320 32 := broadcastInDim S3x20x640x320 ![] bcast_S_S3x20x640x320 main_c_9
  let main_v22 : IVec S3x20x640x320 1 := cmpi .slt main_v11 main_v21
  let main_c_10 : IVec S_ 1 := constantI S_ 1 1#1
  let main_v23 : IVec S_ 1 := (fun x v => Host.reduce IntOp.andi x v reducesTo_S3x20x640x320_S_d0_1_2_3 h_S_) main_v22 main_c_10
  let main_v24 : FVec F S3x20x5 .f32 := Host.absf main_arg4
  let main_cst : FVec F S_ .f32 := constant S_ .f32 0x7F800000#32
  let main_v25 : FVec F S3x20x5 .f32 := broadcastInDim S3x20x5 ![] bcast_S_S3x20x5 main_cst
  let main_v26 : IVec S3x20x5 1 := cmpf .olt main_v24 main_v25
  let main_c_11 : IVec S_ 1 := constantI S_ 1 1#1
  let main_v27 : IVec S_ 1 := (fun x v => Host.reduce IntOp.andi x v reducesTo_S3x20x5_S_d0_1_2 h_S_) main_v26 main_c_11
  let main_v28 : FVec F S3x20x5 .f32 := Host.absf main_arg5
  let main_cst_12 : FVec F S_ .f32 := constant S_ .f32 0x7F800000#32
  let main_v29 : FVec F S3x20x5 .f32 := broadcastInDim S3x20x5 ![] bcast_S_S3x20x5 main_cst_12
  let main_v30 : IVec S3x20x5 1 := cmpf .olt main_v28 main_v29
  let main_c_13 : IVec S_ 1 := constantI S_ 1 1#1
  let main_v31 : IVec S_ 1 := (fun x v => Host.reduce IntOp.andi x v reducesTo_S3x20x5_S_d0_1_2 h_S_) main_v30 main_c_13
  fn_part2 (F := F) main_arg6 main_arg7 main_v14 main_v17 main_v20 main_v23 main_v27 main_v31

def fn {F : FTy → Type} [FloatOps F] (main_arg0 : IVec S3x20x640x160 8) (main_arg1 : IVec S3x20x640x160 8) (main_arg2 : IVec S3x20x640x320 8) (main_arg3 : IVec S3x20x640x320 8) (main_arg4 : FVec F S3x20x5 .f32) (main_arg5 : FVec F S3x20x5 .f32) (main_arg6 : FVec F S3x20x5 .f32) (main_arg7 : FVec F S3x20x640 .f32) : IVec S_ 1 :=
  let main_v0 : IVec S3x20x640x160 32 := (extsi 32 · natLt_8_32) main_arg0
  let main_c : IVec S_ 32 := constantI S_ 32 127#32
  let main_v1 : IVec S3x20x640x160 32 := broadcastInDim S3x20x640x160 ![] bcast_S_S3x20x640x160 main_c
  let main_v2 : IVec S3x20x640x160 32 := andi main_v0 main_v1
  let main_v3 : IVec S3x20x640x160 32 := (extsi 32 · natLt_8_32) main_arg1
  let main_c_0 : IVec S_ 32 := constantI S_ 32 127#32
  let main_v4 : IVec S3x20x640x160 32 := broadcastInDim S3x20x640x160 ![] bcast_S_S3x20x640x160 main_c_0
  let main_v5 : IVec S3x20x640x160 32 := andi main_v3 main_v4
  let main_v6 : IVec S3x20x640x320 32 := (extsi 32 · natLt_8_32) main_arg2
  let main_c_1 : IVec S_ 32 := constantI S_ 32 127#32
  let main_v7 : IVec S3x20x640x320 32 := broadcastInDim S3x20x640x320 ![] bcast_S_S3x20x640x320 main_c_1
  let main_v8 : IVec S3x20x640x320 32 := andi main_v6 main_v7
  let main_v9 : IVec S3x20x640x320 32 := (extsi 32 · natLt_8_32) main_arg3
  let main_c_2 : IVec S_ 32 := constantI S_ 32 127#32
  let main_v10 : IVec S3x20x640x320 32 := broadcastInDim S3x20x640x320 ![] bcast_S_S3x20x640x320 main_c_2
  let main_v11 : IVec S3x20x640x320 32 := andi main_v9 main_v10
  let main_c_3 : IVec S_ 32 := constantI S_ 32 127#32
  let main_v12 : IVec S3x20x640x160 32 := broadcastInDim S3x20x640x160 ![] bcast_S_S3x20x640x160 main_c_3
  let main_v13 : IVec S3x20x640x160 1 := cmpi .slt main_v2 main_v12
  let main_c_4 : IVec S_ 1 := constantI S_ 1 1#1
  let main_v14 : IVec S_ 1 := (fun x v => Host.reduce IntOp.andi x v reducesTo_S3x20x640x160_S_d0_1_2_3 h_S_) main_v13 main_c_4
  let main_c_5 : IVec S_ 32 := constantI S_ 32 127#32
  let main_v15 : IVec S3x20x640x160 32 := broadcastInDim S3x20x640x160 ![] bcast_S_S3x20x640x160 main_c_5
  let main_v16 : IVec S3x20x640x160 1 := cmpi .slt main_v5 main_v15
  fn_part1 (F := F) main_arg4 main_arg5 main_arg6 main_arg7 main_v8 main_v11 main_v14 main_v16
-- ==== Kernel.lean ====
abbrev S3x20x640x160 : Shape := ⟨4, ![3, 20, 640, 160]⟩
abbrev S3x20x640x320 : Shape := ⟨4, ![3, 20, 640, 320]⟩
abbrev S3x20x5 : Shape := ⟨3, ![3, 20, 5]⟩
abbrev S3x20x640 : Shape := ⟨3, ![3, 20, 640]⟩
abbrev S3x20x160x640 : Shape := ⟨4, ![3, 20, 160, 640]⟩
abbrev S3x20x320x640 : Shape := ⟨4, ![3, 20, 320, 640]⟩
abbrev S5x3x20 : Shape := ⟨3, ![5, 3, 20]⟩
abbrev S1x4x160x640 : Shape := ⟨4, ![1, 4, 160, 640]⟩
abbrev S1x4x320x640 : Shape := ⟨4, ![1, 4, 320, 640]⟩
abbrev S1x20x640 : Shape := ⟨3, ![1, 20, 640]⟩
abbrev S2x640x640 : Shape := ⟨3, ![2, 640, 640]⟩
abbrev S2x160x640 : Shape := ⟨3, ![2, 160, 640]⟩
abbrev S2x320x640 : Shape := ⟨3, ![2, 320, 640]⟩
abbrev S128x128 : Shape := ⟨2, ![128, 128]⟩
abbrev S1x1x640 : Shape := ⟨3, ![1, 1, 640]⟩
abbrev S1x640 : Shape := ⟨2, ![1, 640]⟩
abbrev S1x1x1 : Shape := ⟨3, ![1, 1, 1]⟩
abbrev S1x1x160x640 : Shape := ⟨4, ![1, 1, 160, 640]⟩
abbrev S160x640 : Shape := ⟨2, ![160, 640]⟩
abbrev S1x1x320x640 : Shape := ⟨4, ![1, 1, 320, 640]⟩
abbrev S320x640 : Shape := ⟨2, ![320, 640]⟩
abbrev S320x256 : Shape := ⟨2, ![320, 256]⟩
abbrev S256x256 : Shape := ⟨2, ![256, 256]⟩
abbrev S1x128x128 : Shape := ⟨3, ![1, 128, 128]⟩
abbrev S320x128 : Shape := ⟨2, ![320, 128]⟩
abbrev S128x256 : Shape := ⟨2, ![128, 256]⟩
abbrev S160x128 : Shape := ⟨2, ![160, 128]⟩
abbrev S160x384 : Shape := ⟨2, ![160, 384]⟩
abbrev S160x256 : Shape := ⟨2, ![160, 256]⟩
abbrev S384x256 : Shape := ⟨2, ![384, 256]⟩
abbrev S1x128 : Shape := ⟨2, ![1, 128]⟩
abbrev S1x160x128 : Shape := ⟨3, ![1, 160, 128]⟩
abbrev S1x320x128 : Shape := ⟨3, ![1, 320, 128]⟩
abbrev S1x160x640 : Shape := ⟨3, ![1, 160, 640]⟩
abbrev S1x256x256 : Shape := ⟨3, ![1, 256, 256]⟩
abbrev S160x512 : Shape := ⟨2, ![160, 512]⟩
abbrev S1x256x512 : Shape := ⟨3, ![1, 256, 512]⟩
abbrev S256x512 : Shape := ⟨2, ![256, 512]⟩
abbrev S1x1x160x128 : Shape := ⟨4, ![1, 1, 160, 128]⟩
abbrev S1x512x256 : Shape := ⟨3, ![1, 512, 256]⟩
abbrev S512x256 : Shape := ⟨2, ![512, 256]⟩
abbrev S1x320x640 : Shape := ⟨3, ![1, 320, 640]⟩
abbrev S320x512 : Shape := ⟨2, ![320, 512]⟩
abbrev S1x1x320x128 : Shape := ⟨4, ![1, 1, 320, 128]⟩

abbrev nBuf : Space → Nat
  | .hbm => 25
  | .vmem => 21
  | .smem => 3
  | _ => 0

abbrev bufTy : (tb : Table) → Fin (tcTables nBuf tb) → BufTy
  | .hbm, ⟨0, _⟩ => ⟨S3x20x640x160, .i8⟩
  | .hbm, ⟨1, _⟩ => ⟨S3x20x640x160, .i8⟩
  | .hbm, ⟨2, _⟩ => ⟨S3x20x640x320, .i8⟩
  | .hbm, ⟨3, _⟩ => ⟨S3x20x640x320, .i8⟩
  | .hbm, ⟨4, _⟩ => ⟨S3x20x5, .f32⟩
  | .hbm, ⟨5, _⟩ => ⟨S3x20x5, .f32⟩
  | .hbm, ⟨6, _⟩ => ⟨S3x20x5, .f32⟩
  | .hbm, ⟨7, _⟩ => ⟨S3x20x640, .f32⟩
  | .hbm, ⟨8, _⟩ => ⟨S3x20x640x160, .fp8e4m3⟩
  | .hbm, ⟨9, _⟩ => ⟨S3x20x640x160, .fp8e4m3⟩
  | .hbm, ⟨10, _⟩ => ⟨S3x20x640x320, .fp8e4m3⟩
  | .hbm, ⟨11, _⟩ => ⟨S3x20x640x320, .fp8e5m2⟩
  | .hbm, ⟨12, _⟩ => ⟨S3x20x160x640, .fp8e4m3⟩
  | .hbm, ⟨13, _⟩ => ⟨S3x20x160x640, .fp8e4m3⟩
  | .hbm, ⟨14, _⟩ => ⟨S3x20x320x640, .fp8e4m3⟩
  | .hbm, ⟨15, _⟩ => ⟨S3x20x320x640, .fp8e5m2⟩
  | .hbm, ⟨16, _⟩ => ⟨S5x3x20, .f32⟩
  | .hbm, ⟨17, _⟩ => ⟨S5x3x20, .f32⟩
  | .hbm, ⟨18, _⟩ => ⟨S5x3x20, .f32⟩
  | .hbm, ⟨19, _⟩ => ⟨S3x20x160x640, .bf16⟩
  | .hbm, ⟨20, _⟩ => ⟨S3x20x160x640, .bf16⟩
  | .hbm, ⟨21, _⟩ => ⟨S3x20x320x640, .bf16⟩
  | .hbm, ⟨22, _⟩ => ⟨S3x20x640x160, .bf16⟩
  | .hbm, ⟨23, _⟩ => ⟨S3x20x640x160, .bf16⟩
  | .hbm, ⟨24, _⟩ => ⟨S3x20x640x320, .bf16⟩
  | .local _ .vmem, ⟨0, _⟩ => ⟨S1x4x160x640, .fp8e4m3⟩
  | .local _ .vmem, ⟨1, _⟩ => ⟨S1x4x160x640, .fp8e4m3⟩
  | .local _ .vmem, ⟨2, _⟩ => ⟨S1x4x160x640, .fp8e4m3⟩
  | .local _ .vmem, ⟨3, _⟩ => ⟨S1x4x160x640, .fp8e4m3⟩
  | .local _ .vmem, ⟨4, _⟩ => ⟨S1x4x320x640, .fp8e4m3⟩
  | .local _ .vmem, ⟨5, _⟩ => ⟨S1x4x320x640, .fp8e4m3⟩
  | .local _ .vmem, ⟨6, _⟩ => ⟨S1x4x320x640, .fp8e5m2⟩
  | .local _ .vmem, ⟨7, _⟩ => ⟨S1x4x320x640, .fp8e5m2⟩
  | .local _ .vmem, ⟨8, _⟩ => ⟨S1x20x640, .f32⟩
  | .local _ .vmem, ⟨9, _⟩ => ⟨S1x20x640, .f32⟩
  | .local _ .vmem, ⟨10, _⟩ => ⟨S1x4x160x640, .bf16⟩
  | .local _ .vmem, ⟨11, _⟩ => ⟨S1x4x160x640, .bf16⟩
  | .local _ .vmem, ⟨12, _⟩ => ⟨S1x4x160x640, .bf16⟩
  | .local _ .vmem, ⟨13, _⟩ => ⟨S1x4x160x640, .bf16⟩
  | .local _ .vmem, ⟨14, _⟩ => ⟨S1x4x320x640, .bf16⟩
  | .local _ .vmem, ⟨15, _⟩ => ⟨S1x4x320x640, .bf16⟩
  | .local _ .vmem, ⟨16, _⟩ => ⟨S2x640x640, .bf16⟩
  | .local _ .vmem, ⟨17, _⟩ => ⟨S2x640x640, .bf16⟩
  | .local _ .vmem, ⟨18, _⟩ => ⟨S2x160x640, .bf16⟩
  | .local _ .vmem, ⟨19, _⟩ => ⟨S2x160x640, .bf16⟩
  | .local _ .vmem, ⟨20, _⟩ => ⟨S2x320x640, .bf16⟩
  | .local _ .smem, ⟨0, _⟩ => ⟨S5x3x20, .f32⟩
  | .local _ .smem, ⟨1, _⟩ => ⟨S5x3x20, .f32⟩
  | .local _ .smem, ⟨2, _⟩ => ⟨S5x3x20, .f32⟩
  | _, _ => ⟨S3x20x640x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![3, 5], ![false, false]⟩

def k0_off1 (i : grid0.Coords) (c0_i32 : BitVec 32) : Fin 3 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let v5 : Index := Scalar.indexCast v4
  let c0_0 : Index := 0#32
  ![0, v5.toNat, 0]
def k0_off2 (i : grid0.Coords) (c0_i32 : BitVec 32) : Fin 3 → Nat :=
  let c0_1 : Index := 0#32
  let arg0 : BitVec 32 := BitVec.ofNat 32 (i 0).val
  let v8 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v9 : Index := Scalar.indexCast v4
  ![0, v8.toNat, v9.toNat]
def k0_off3 (i : grid0.Coords) (c0_i32 : BitVec 32) : Fin 3 → Nat :=
  let c1 : Index := 1#32
  let arg0 : BitVec 32 := BitVec.ofNat 32 (i 0).val
  let v11 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v12 : Index := Scalar.indexCast v4
  ![1, v11.toNat, v12.toNat]
def k0_off4 (i : grid0.Coords) (c0_i32 : BitVec 32) : Fin 3 → Nat :=
  let c2 : Index := 2#32
  let arg0 : BitVec 32 := BitVec.ofNat 32 (i 0).val
  let v14 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v15 : Index := Scalar.indexCast v4
  ![2, v14.toNat, v15.toNat]
def k0_off5 (i : grid0.Coords) (c0_i32 : BitVec 32) : Fin 3 → Nat :=
  let c3 : Index := 3#32
  let arg0 : BitVec 32 := BitVec.ofNat 32 (i 0).val
  let v17 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v18 : Index := Scalar.indexCast v4
  ![3, v17.toNat, v18.toNat]
def k0_off6 (i : grid0.Coords) (c0_i32 : BitVec 32) : Fin 3 → Nat :=
  let c4 : Index := 4#32
  let arg0 : BitVec 32 := BitVec.ofNat 32 (i 0).val
  let v20 : Index := Scalar.indexCast arg0
  let arg1 : BitVec 32 := BitVec.ofNat 32 (i 1).val
  let c4_i32 : BitVec 32 := 4#32
  let v3 : BitVec 32 := Scalar.muli arg1 c4_i32
  let v4 : BitVec 32 := Scalar.addi v3 c0_i32
  let v21 : Index := Scalar.indexCast v4
  ![4, v20.toNat, v21.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S5x3x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5x3x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S5x3x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x160x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x160x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x320x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x320x640 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x20x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x160x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x160x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x320x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S3x20x640x160 : Shape := ⟨4, ![3, 20, 640, 160]⟩
abbrev S3x20x640x320 : Shape := ⟨4, ![3, 20, 640, 320]⟩
abbrev S3x20x5 : Shape := ⟨3, ![3, 20, 5]⟩
abbrev S3x20x640 : Shape := ⟨3, ![3, 20, 640]⟩
abbrev S3x20x5x128x160 : Shape := ⟨5, ![3, 20, 5, 128, 160]⟩
abbrev S3x20x5x128x320 : Shape := ⟨5, ![3, 20, 5, 128, 320]⟩
abbrev S3x20x5x128 : Shape := ⟨4, ![3, 20, 5, 128]⟩
abbrev S3x20x5x1x1 : Shape := ⟨5, ![3, 20, 5, 1, 1]⟩
abbrev S3x20x5x128x1 : Shape := ⟨5, ![3, 20, 5, 128, 1]⟩
abbrev S3x20x5x160x320 : Shape := ⟨5, ![3, 20, 5, 160, 320]⟩
abbrev S_ : Shape := ⟨0, ![]⟩
abbrev S3x20x1x160x320 : Shape := ⟨5, ![3, 20, 1, 160, 320]⟩
abbrev S3x20x4x160x320 : Shape := ⟨5, ![3, 20, 4, 160, 320]⟩
abbrev S128x128 : Shape := ⟨2, ![128, 128]⟩
abbrev S3x20x5x128x128 : Shape := ⟨5, ![3, 20, 5, 128, 128]⟩

abbrev nBuf : Space → Nat
  | .hbm => 120
  | .vmem => 8
  | .smem => 0
  | _ => 0

abbrev bufTy : (tb : Table) → Fin (tcTables nBuf tb) → BufTy
  | .hbm, ⟨0, _⟩ => ⟨S3x20x640x160, .i8⟩
  | .hbm, ⟨1, _⟩ => ⟨S3x20x640x160, .i8⟩
  | .hbm, ⟨2, _⟩ => ⟨S3x20x640x320, .i8⟩
  | .hbm, ⟨3, _⟩ => ⟨S3x20x640x320, .i8⟩
  | .hbm, ⟨4, _⟩ => ⟨S3x20x5, .f32⟩
  | .hbm, ⟨5, _⟩ => ⟨S3x20x5, .f32⟩
  | .hbm, ⟨6, _⟩ => ⟨S3x20x5, .f32⟩
  | .hbm, ⟨7, _⟩ => ⟨S3x20x640, .f32⟩
  | .hbm, ⟨8, _⟩ => ⟨S3x20x640x160, .fp8e4m3⟩
  | .hbm, ⟨9, _⟩ => ⟨S3x20x640x160, .fp8e4m3⟩
  | .hbm, ⟨10, _⟩ => ⟨S3x20x640x320, .fp8e4m3⟩
  | .hbm, ⟨11, _⟩ => ⟨S3x20x640x320, .fp8e5m2⟩
  | .hbm, ⟨12, _⟩ => ⟨S3x20x640x160, .bf16⟩
  | .hbm, ⟨13, _⟩ => ⟨S3x20x640x160, .bf16⟩
  | .hbm, ⟨14, _⟩ => ⟨S3x20x640x320, .bf16⟩
  | .hbm, ⟨15, _⟩ => ⟨S3x20x640x320, .bf16⟩
  | .hbm, ⟨16, _⟩ => ⟨S3x20x5x128x160, .bf16⟩
  | .hbm, ⟨17, _⟩ => ⟨S3x20x5x128x160, .bf16⟩
  | .hbm, ⟨18, _⟩ => ⟨S3x20x5x128x320, .bf16⟩
  | .hbm, ⟨19, _⟩ => ⟨S3x20x5x128x320, .bf16⟩
  | .hbm, ⟨20, _⟩ => ⟨S3x20x5x128, .f32⟩
  | .hbm, ⟨21, _⟩ => ⟨S3x20x5, .bf16⟩
  | .hbm, ⟨22, _⟩ => ⟨S3x20x5x1x1, .bf16⟩
  | .hbm, ⟨23, _⟩ => ⟨S3x20x5x128x160, .bf16⟩
  | .hbm, ⟨24, _⟩ => ⟨S3x20x5x128x160, .bf16⟩
  | .hbm, ⟨25, _⟩ => ⟨S3x20x5, .bf16⟩
  | .hbm, ⟨26, _⟩ => ⟨S3x20x5x1x1, .bf16⟩
  | .hbm, ⟨27, _⟩ => ⟨S3x20x5x128x160, .bf16⟩
  | .hbm, ⟨28, _⟩ => ⟨S3x20x5x128x160, .bf16⟩
  | .hbm, ⟨29, _⟩ => ⟨S3x20x5, .bf16⟩
  | .hbm, ⟨30, _⟩ => ⟨S3x20x5x1x1, .bf16⟩
  | .hbm, ⟨31, _⟩ => ⟨S3x20x5x128x320, .bf16⟩
  | .hbm, ⟨32, _⟩ => ⟨S3x20x5x128x320, .bf16⟩
  | .hbm, ⟨33, _⟩ => ⟨S3x20x5x128, .bf16⟩
  | .hbm, ⟨34, _⟩ => ⟨S3x20x5x128x1, .bf16⟩
  | .hbm, ⟨35, _⟩ => ⟨S3x20x5x128x320, .bf16⟩
  | .hbm, ⟨36, _⟩ => ⟨S3x20x5x128x320, .bf16⟩
  | .hbm, ⟨37, _⟩ => ⟨S3x20x5x160x320, .f32⟩
  | .hbm, ⟨38, _⟩ => ⟨S3x20x5, .f32⟩
  | .hbm, ⟨39, _⟩ => ⟨S3x20x5x1x1, .f32⟩
  | .hbm, ⟨40, _⟩ => ⟨S3x20x5x160x320, .f32⟩
  | .hbm, ⟨41, _⟩ => ⟨S3x20x5x160x320, .f32⟩
  | .hbm, ⟨42, _⟩ => ⟨S3x20x5x160x320, .f32⟩
  | .hbm, ⟨43, _⟩ => ⟨S_, .f32⟩
  | .hbm, ⟨44, _⟩ => ⟨S_, .f32⟩
  | .hbm, ⟨45, _⟩ => ⟨S3x20x5x160x320, .f32⟩
  | .hbm, ⟨46, _⟩ => ⟨S3x20x1x160x320, .f32⟩
  | .hbm, ⟨47, _⟩ => ⟨S_, .f32⟩
  | .hbm, ⟨48, _⟩ => ⟨S3x20x1x160x320, .f32⟩
  | .hbm, ⟨49, _⟩ => ⟨S3x20x4x160x320, .f32⟩
  | .hbm, ⟨50, _⟩ => ⟨S3x20x5x160x320, .f32⟩
  | .hbm, ⟨51, _⟩ => ⟨S3x20x5x160x320, .bf16⟩
  | .hbm, ⟨52, _⟩ => ⟨S_, .f32⟩
  | .hbm, ⟨53, _⟩ => ⟨S_, .f32⟩
  | .hbm, ⟨54, _⟩ => ⟨S3x20x5x160x320, .f32⟩
  | .hbm, ⟨55, _⟩ => ⟨S3x20x4x160x320, .f32⟩
  | .hbm, ⟨56, _⟩ => ⟨S3x20x1x160x320, .f32⟩
  | .hbm, ⟨57, _⟩ => ⟨S_, .f32⟩
  | .hbm, ⟨58, _⟩ => ⟨S3x20x1x160x320, .f32⟩
  | .hbm, ⟨59, _⟩ => ⟨S3x20x5x160x320, .f32⟩
  | .hbm, ⟨60, _⟩ => ⟨S3x20x5x160x320, .bf16⟩
  | .hbm, ⟨61, _⟩ => ⟨S_, .i1⟩
  | .hbm, ⟨62, _⟩ => ⟨S128x128, .i1⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .i1⟩
  | .hbm, ⟨70, _⟩ => ⟨S128x128, .i1⟩
  | .hbm, ⟨71, _⟩ => ⟨S128x128, .i1⟩
  | .hbm, ⟨72, _⟩ => ⟨S3x20x5x128x128, .f32⟩
  | .hbm, ⟨73, _⟩ => ⟨S3x20x5x128x1, .f32⟩
  | .hbm, ⟨74, _⟩ => ⟨S3x20x5x1x1, .f32⟩
  | .hbm, ⟨75, _⟩ => ⟨S3x20x5x128x1, .f32⟩
  | .hbm, ⟨76, _⟩ => ⟨S3x20x5x128x1, .f32⟩
  | .hbm, ⟨77, _⟩ => ⟨S3x20x5x128x128, .f32⟩
  | .hbm, ⟨78, _⟩ => ⟨S3x20x5x128x128, .f32⟩
  | .hbm, ⟨79, _⟩ => ⟨S_, .f32⟩
  | .hbm, ⟨80, _⟩ => ⟨S_, .f32⟩
  | .hbm, ⟨81, _⟩ => ⟨S3x20x5x128x128, .i1⟩
  | .hbm, ⟨82, _⟩ => ⟨S3x20x5x128x128, .f32⟩
  | .hbm, ⟨83, _⟩ => ⟨S3x20x5x128x128, .f32⟩
  | .hbm, ⟨84, _⟩ => ⟨S3x20x5x128x128, .bf16⟩
  | .hbm, ⟨85, _⟩ => ⟨S3x20x5x128x128, .f32⟩
  | .hbm, ⟨86, _⟩ => ⟨S3x20x5, .f32⟩
  | .hbm, ⟨87, _⟩ => ⟨S3x20x5x1x1, .f32⟩
  | .hbm, ⟨88, _⟩ => ⟨S3x20x5x128x128, .f32⟩
  | .hbm, ⟨89, _⟩ => ⟨S3x20x5x128x128, .f32⟩
  | .hbm, ⟨90, _⟩ => ⟨S_, .f32⟩
  | .hbm, ⟨91, _⟩ => ⟨S_, .f32⟩
  | .hbm, ⟨92, _⟩ => ⟨S3x20x5x128x128, .i1⟩
  | .hbm, ⟨93, _⟩ => ⟨S3x20x5x128x128, .f32⟩
  | .hbm, ⟨94, _⟩ => ⟨S3x20x5x128x128, .f32⟩
  | .hbm, ⟨95, _⟩ => ⟨S3x20x5x128x128, .bf16⟩
  | .hbm, ⟨96, _⟩ => ⟨S3x20x5x128x160, .f32⟩
  | .hbm, ⟨97, _⟩ => ⟨S3x20x5x128x160, .f32⟩
  | .hbm, ⟨98, _⟩ => ⟨S3x20x5x128x160, .f32⟩
  | .hbm, ⟨99, _⟩ => ⟨S_, .f32⟩
  | .hbm, ⟨100, _⟩ => ⟨S3x20x5x128x160, .f32⟩
  | .hbm, ⟨101, _⟩ => ⟨S3x20x5x128x160, .f32⟩
  | .hbm, ⟨102, _⟩ => ⟨S3x20x5x128x160, .f32⟩
  | .hbm, ⟨103, _⟩ => ⟨S3x20x5x128x160, .f32⟩
  | .hbm, ⟨104, _⟩ => ⟨S3x20x5x128x160, .f32⟩
  | .hbm, ⟨105, _⟩ => ⟨S_, .f32⟩
  | .hbm, ⟨106, _⟩ => ⟨S3x20x5x128x160, .f32⟩
  | .hbm, ⟨107, _⟩ => ⟨S3x20x5x128x160, .f32⟩
  | .hbm, ⟨108, _⟩ => ⟨S3x20x5x128x320, .f32⟩
  | .hbm, ⟨109, _⟩ => ⟨S3x20x5x128x320, .f32⟩
  | .hbm, ⟨110, _⟩ => ⟨S3x20x5x128x320, .f32⟩
  | .hbm, ⟨111, _⟩ => ⟨S_, .f32⟩
  | .hbm, ⟨112, _⟩ => ⟨S3x20x5x128x320, .f32⟩
  | .hbm, ⟨113, _⟩ => ⟨S3x20x5x128x320, .f32⟩
  | .hbm, ⟨114, _⟩ => ⟨S3x20x5x128x160, .bf16⟩
  | .hbm, ⟨115, _⟩ => ⟨S3x20x640x160, .bf16⟩
  | .hbm, ⟨116, _⟩ => ⟨S3x20x5x128x160, .bf16⟩
  | .hbm, ⟨117, _⟩ => ⟨S3x20x640x160, .bf16⟩
  | .hbm, ⟨118, _⟩ => ⟨S3x20x5x128x320, .bf16⟩
  | .hbm, ⟨119, _⟩ => ⟨S3x20x640x320, .bf16⟩
  | .local _ .vmem, ⟨0, _⟩ => ⟨S3x20x640x160, .fp8e4m3⟩
  | .local _ .vmem, ⟨1, _⟩ => ⟨S3x20x640x160, .fp8e4m3⟩
  | .local _ .vmem, ⟨2, _⟩ => ⟨S3x20x640x320, .fp8e4m3⟩
  | .local _ .vmem, ⟨3, _⟩ => ⟨S3x20x640x320, .fp8e5m2⟩
  | .local _ .vmem, ⟨4, _⟩ => ⟨S3x20x640x160, .bf16⟩
  | .local _ .vmem, ⟨5, _⟩ => ⟨S3x20x640x160, .bf16⟩
  | .local _ .vmem, ⟨6, _⟩ => ⟨S3x20x640x320, .bf16⟩
  | .local _ .vmem, ⟨7, _⟩ => ⟨S3x20x640x320, .bf16⟩
  | _, _ => ⟨S3x20x640x160, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_call0_cst : Ref sig .tc := ⟨.hbm, 43, rfl⟩
abbrev main_call0_call0_v0 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_cst : Ref sig .tc := ⟨.hbm, 52, rfl⟩
abbrev main_call1_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_1 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_2 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_3 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_4 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_5 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x20x640x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x20x640x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x20x640x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x20x640x320 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x20x640x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x20x640x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x20x640x320 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x20x640x320 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Tab.lean ====
/-
  Blocks by coordinates. `Tab2 X f` says that the block `X`, whose shape has two axes, holds `f i j` at row `i` and column `j`, where `f` is a function of
  two natural numbers; `Tab3` and `Tab4` say it of a block with one and with two leading axes of extent one. There is one instance per vector operation of
  the kernel, so that instance resolution reads a composed payload as a function of its coordinates; a sum over a contracted axis of extent `K` becomes a
  sum over `Finset.range K`. The facts are at exact (extended real) values, where the format conversions change nothing.
-/
module

public import Idealize.ShloMosaic.PureOps.Ideal.Laws
public import Idealize.ShloMosaic.Lib.ValueIdx
public import Idealize.ShloMosaic.Lib.ValueLayout
public import Idealize.ShloMosaic.Lib.IdealHost
public import Idealize.ShloMosaic.Lib.WordCmp
public import Idealize.ShloMosaic.Lib.MatmulPlain

@[expose] public section

noncomputable section

namespace Cert.Value

open Idealize.ShloMosaic Idealize.ShloMosaic.ValueIdx
open scoped BigOperators

/-- The block `X` holds `f i j` at row `i`, column `j`. -/
class Tab2 {a b : ℕ} {φ : FTy} (X : FVec Ideal ⟨2, ![a, b]⟩ φ) (f : outParam (ℕ → ℕ → EReal)) : Prop where
  /-- The element at a row and a column. -/
  get : ∀ (i : Fin a) (j : Fin b), (X (ix2 i j) : EReal) = f i.val j.val

/-- The block `X` under one leading axis of extent one holds `f i j` at row `i`, column `j`. -/
class Tab3 {a b : ℕ} {φ : FTy} (X : FVec Ideal ⟨3, ![1, a, b]⟩ φ) (f : outParam (ℕ → ℕ → EReal)) : Prop where
  /-- The element at a row and a column. -/
  get : ∀ (i : Fin a) (j : Fin b), (X (ix3 0 i j) : EReal) = f i.val j.val

/-- The block `X` under two leading axes of extent one holds `f i j` at row `i`, column `j`. -/
class Tab4 {a b : ℕ} {φ : FTy} (X : FVec Ideal ⟨4, ![1, 1, a, b]⟩ φ) (f : outParam (ℕ → ℕ → EReal)) : Prop where
  /-- The element at a row and a column. -/
  get : ∀ (i : Fin a) (j : Fin b), (X (ix4 0 0 i j) : EReal) = f i.val j.val

variable {a b : ℕ} {φ ψ : FTy}

instance (priority := 2000) (X Y : FVec Ideal ⟨2, ![a, b]⟩ φ) (f g : ℕ → ℕ → EReal) [hX : Tab2 X f] [hY : Tab2 Y g] :
    Tab2 (mulf X Y) (fun i j => f i j * g i j) :=
  ⟨fun i j => by rw [← hX.get, ← hY.get]; rfl⟩

instance (X Y : FVec Ideal ⟨2, ![a, b]⟩ φ) (f g : ℕ → ℕ → EReal) [hX : Tab2 X f] [hY : Tab2 Y g] :
    Tab2 (addf X Y) (fun i j => f i j + g i j) :=
  ⟨fun i j => by rw [← hX.get, ← hY.get]; rfl⟩

instance (X : FVec Ideal ⟨2, ![a, b]⟩ φ) (f : ℕ → ℕ → EReal) (h : ψ.bits < φ.bits) [hX : Tab2 X f] : Tab2 (truncf ψ X h) f :=
  ⟨fun i j => hX.get i j⟩

instance (X : FVec Ideal ⟨2, ![a, b]⟩ φ) (f : ℕ → ℕ → EReal) (h : φ.bits < ψ.bits) [hX : Tab2 X f] : Tab2 (extf ψ X h) f :=
  ⟨fun i j => hX.get i j⟩

instance (x : Ideal φ) : Tab2 (φ := φ) (broadcast (⟨2, ![a, b]⟩ : Shape) x) (fun _ _ => x) :=
  ⟨fun _ _ => rfl⟩

instance : Tab2 (constant (F := Ideal) (⟨2, ![a, b]⟩ : Shape) .f32 0x00000000#32) (fun _ _ => 0) :=
  ⟨fun _ _ => Ideal.ofBits_zero_f32⟩

/-- One row copied to every row. -/
instance (X : FVec Ideal ⟨2, ![1, b]⟩ φ) (f : ℕ → ℕ → EReal) (h : (⟨2, ![1, b]⟩ : Shape).Broadcasts ⟨2, ![a, b]⟩) [hX : Tab2 X f] :
    Tab2 (φ := φ) (broadcastTo ⟨2, ![a, b]⟩ X h) (fun _ j => f 0 j) :=
  ⟨fun i j => by rw [broadcastTo_1b_ab_apply]; exact hX.get 0 j⟩

/-- A slice starts `o₀` rows down and `o₁` columns along. -/
instance {a' b' : ℕ} (o₀ o₁ : ℕ) (X : FVec Ideal ⟨2, ![a, b]⟩ φ) (f : ℕ → ℕ → EReal)
    (h : (⟨2, ![a, b]⟩ : Shape).Slices ![o₀, o₁] ⟨2, ![a', b']⟩) [hX : Tab2 X f] :
    Tab2 (φ := φ) (extractStridedSlice ⟨2, ![a', b']⟩ ![o₀, o₁] X h) (fun i j => f (o₀ + i) (o₁ + j)) :=
  ⟨fun i j => by
    have h0 : o₀ + a' ≤ a := h.2 0
    have h1 : o₁ + b' ≤ b := h.2 1
    rw [extractStridedSlice_apply ![o₀, o₁] X h (ix2 i j) (ix2 ⟨o₀ + i.val, by omega⟩ ⟨o₁ + j.val, by omega⟩)
      (fun ax => by match ax with | ⟨0, _⟩ => rfl | ⟨1, _⟩ => rfl)]
    exact hX.get _ _⟩

instance (X : FVec Ideal ⟨3, ![1, a, b]⟩ φ) (f : ℕ → ℕ → EReal) (h : (⟨3, ![1, a, b]⟩ : Shape).ShapeCasts ⟨2, ![a, b]⟩) [hX : Tab3 X f] :
    Tab2 (φ := φ) (shapeCast ⟨2, ![a, b]⟩ X h) f :=
  ⟨fun i j => by rw [shapeCast_1ab_ab_apply]; exact hX.get i j⟩

instance (X : FVec Ideal ⟨2, ![a, b]⟩ φ) (f : ℕ → ℕ → EReal) (h : (⟨2, ![a, b]⟩ : Shape).ShapeCasts ⟨3, ![1, a, b]⟩) [hX : Tab2 X f] :
    Tab3 (φ := φ) (shapeCast ⟨3, ![1, a, b]⟩ X h) f :=
  ⟨fun i j => by rw [shapeCast_ab_1ab_apply]; exact hX.get i j⟩

instance (X : FVec Ideal ⟨4, ![1, 1, a, b]⟩ φ) (f : ℕ → ℕ → EReal) (h : (⟨4, ![1, 1, a, b]⟩ : Shape).ShapeCasts ⟨2, ![a, b]⟩)
    [hX : Tab4 X f] : Tab2 (φ := φ) (shapeCast ⟨2, ![a, b]⟩ X h) f :=
  ⟨fun i j => by
    rw [shapeCast_apply X h (ix2 i j) (ix4 0 0 i j) (by
      rw [Shape.rowMajor_val_four, Shape.rowMajor_val_two]
      show ((0 * 1 + 0) * a + i.val) * b + j.val = i.val * b + j.val
      simp)]
    exact hX.get i j⟩

instance (X : FVec Ideal ⟨2, ![a, b]⟩ φ) (f : ℕ → ℕ → EReal) (h : (⟨2, ![a, b]⟩ : Shape).ShapeCasts ⟨4, ![1, 1, a, b]⟩)
    [hX : Tab2 X f] : Tab4 (φ := φ) (shapeCast ⟨4, ![1, 1, a, b]⟩ X h) f :=
  ⟨fun i j => by
    rw [shapeCast_apply X h (ix4 0 0 i j) (ix2 i j) (by
      rw [Shape.rowMajor_val_four, Shape.rowMajor_val_two]
      show i.val * b + j.val = ((0 * 1 + 0) * a + i.val) * b + j.val
      simp)]
    exact hX.get i j⟩

/-- The lower triangle of a 128 by 128 block: the first operand where the row is at least the column, the second elsewhere. -/
instance (h0 : (⟨2, ![128, 128]⟩ : Shape).Iotas .tc 32 [0]) (h1 : (⟨2, ![128, 128]⟩ : Shape).Iotas .tc 32 [1])
    (X Y : FVec Ideal ⟨2, ![128, 128]⟩ φ) (f g : ℕ → ℕ → EReal) [hX : Tab2 X f] [hY : Tab2 Y g] :
    Tab2 (φ := φ) (select (cmpi .sge (iota .tc (⟨2, ![128, 128]⟩ : Shape) 32 [0] h0) (iota .tc (⟨2, ![128, 128]⟩ : Shape) 32 [1] h1)) X Y)
      (fun i j => if j ≤ i then f i j else g i j) :=
  ⟨fun i j => by
    rw [← hX.get, ← hY.get]
    have hm : (BitVec.ofNat 32 j.val).sle (BitVec.ofNat 32 i.val) = decide (j.val ≤ i.val) := by
      have hi := i.isLt
      have hj := j.isLt
      rw [BitVec.sle_eq_decide, BitVec.toInt_eq_toNat_of_lt (by simp; omega), BitVec.toInt_eq_toNat_of_lt (by simp; omega)]
      simp only [BitVec.toNat_ofNat]
      rw [Nat.mod_eq_of_lt (by omega), Nat.mod_eq_of_lt (by omega)]
      simp
    show Scalar.select (BitVec.ofBool ((BitVec.ofNat 32 (0 * 128 + j.val)).sle (BitVec.ofNat 32 (0 * 128 + i.val)))) _ _ = _
    rw [Nat.zero_mul, Nat.zero_add, Nat.zero_add, hm]
    by_cases h : j.val ≤ i.val
    · rw [if_pos h, decide_eq_true h]; rfl
    · rw [if_neg h, decide_eq_false h]; rfl⟩

/-- A product contracting the rows of both operands. -/
instance {K M N : ℕ} (wf : DotDims.WF ⟨2, ![K, M]⟩ ⟨2, ![K, N]⟩ ⟨2, ![M, N]⟩ [0] [0] [1] [1] [] []) (prec : Option ContractPrecision)
    (X : FVec Ideal ⟨2, ![K, M]⟩ φ) (Y : FVec Ideal ⟨2, ![K, N]⟩ ψ) (Z : FVec Ideal ⟨2, ![M, N]⟩ .f32) (f g h : ℕ → ℕ → EReal)
    [hX : Tab2 X f] [hY : Tab2 Y g] [hZ : Tab2 Z h] :
    Tab2 (φ := .f32) (FloatOps.matmul (DotDims.mk [0] [0] [1] [1] [] [] wf) prec X Y Z)
      (fun i j => h i j + ∑ k ∈ Finset.range K, f k i * g k j) :=
  ⟨fun i j => by
    let D : DotDims ⟨2, ![K, M]⟩ ⟨2, ![K, N]⟩ ⟨2, ![M, N]⟩ := DotDims.mk [0] [0] [1] [1] [] [] wf
    rw [Ideal.matmul_apply, hZ.get, Finset.sum_range, ← Equiv.sum_comp (contrEquiv1 D K rfl rfl).symm]
    refine congrArg (h i j + ·) (Finset.sum_congr rfl fun k _ => ?_)
    have hk := contrEquiv1_symm_val D K rfl rfl k
    have el : D.lhsIdx (ix2 i j) ((contrEquiv1 D K rfl rfl).symm k) = ix2 k i := by
      funext ax; apply Fin.ext
      match ax with
      | ⟨0, _⟩ => exact hk
      | ⟨1, _⟩ => rfl
    have er : D.rhsIdx (ix2 i j) ((contrEquiv1 D K rfl rfl).symm k) = ix2 k j := by
      funext ax; apply Fin.ext
      match ax with
      | ⟨0, _⟩ => exact hk
      | ⟨1, _⟩ => rfl
    show (X (D.lhsIdx _ _) : EReal) * (Y (D.rhsIdx _ _) : EReal) = _
    rw [el, er, hX.get, hY.get]⟩

/-- A product contracting the columns of both operands. -/
instance {K M N : ℕ} (wf : DotDims.WF ⟨2, ![M, K]⟩ ⟨2, ![N, K]⟩ ⟨2, ![M, N]⟩ [1] [1] [0] [0] [] []) (prec : Option ContractPrecision)
    (X : FVec Ideal ⟨2, ![M, K]⟩ φ) (Y : FVec Ideal ⟨2, ![N, K]⟩ ψ) (Z : FVec Ideal ⟨2, ![M, N]⟩ .f32) (f g h : ℕ → ℕ → EReal)
    [hX : Tab2 X f] [hY : Tab2 Y g] [hZ : Tab2 Z h] :
    Tab2 (φ := .f32) (FloatOps.matmul (DotDims.mk [1] [1] [0] [0] [] [] wf) prec X Y Z)
      (fun i j => h i j + ∑ k ∈ Finset.range K, f i k * g j k) :=
  ⟨fun i j => by
    refine (Ideal.matmul_transposedRhs_apply prec X Y Z i j).trans ?_
    rw [hZ.get, Finset.sum_range]
    exact congrArg (h i j + ·) (Finset.sum_congr rfl fun k _ => by rw [← hX.get, ← hY.get])⟩

/-- A product contracting the first operand's columns with the second's rows. -/
instance {K M N : ℕ} (wf : DotDims.WF ⟨2, ![M, K]⟩ ⟨2, ![K, N]⟩ ⟨2, ![M, N]⟩ [1] [0] [0] [1] [] []) (prec : Option ContractPrecision)
    (X : FVec Ideal ⟨2, ![M, K]⟩ φ) (Y : FVec Ideal ⟨2, ![K, N]⟩ ψ) (Z : FVec Ideal ⟨2, ![M, N]⟩ .f32) (f g h : ℕ → ℕ → EReal)
    [hX : Tab2 X f] [hY : Tab2 Y g] [hZ : Tab2 Z h] :
    Tab2 (φ := .f32) (FloatOps.matmul (DotDims.mk [1] [0] [0] [1] [] [] wf) prec X Y Z)
      (fun i j => h i j + ∑ k ∈ Finset.range K, f i k * g k j) :=
  ⟨fun i j => by
    refine (Ideal.matmul_plain_apply prec X Y Z i j).trans ?_
    rw [hZ.get, Finset.sum_range]
    exact congrArg (h i j + ·) (Finset.sum_congr rfl fun k _ => by rw [← hX.get, ← hY.get])⟩

end Cert.Value

end
-- ==== Proof.Blocks.lean ====
/-
  Loads and stores of the kernel by coordinates: a load of an input block, a load of a scratch buffer that was stored piece by piece, and the comparison of
  one stored piece with a function of the buffer's coordinates.
-/
module

public import proofs.«01_k».proof.Proof.Tab
public import Idealize.ShloMosaic.Lib.Pipeline.ReadBack
public import Idealize.ShloMosaic.Lib.Tactic

@[expose] public section

noncomputable section

namespace Cert.Value

open Idealize.ShloMosaic Idealize.ShloMosaic.ValueIdx
open scoped BigOperators

/-- An array with three axes at three natural numbers, zero outside its extents. -/
def num3 {n0 n1 n2 : ℕ} {φ : FTy} (X : FVec Ideal ⟨3, ![n0, n1, n2]⟩ φ) (a b c : ℕ) : EReal :=
  if h : a < n0 ∧ b < n1 ∧ c < n2 then X (ix3 ⟨a, h.1⟩ ⟨b, h.2.1⟩ ⟨c, h.2.2⟩) else 0

/-- An array with four axes at four natural numbers, zero outside its extents. -/
def num4 {n0 n1 n2 n3 : ℕ} {φ : FTy} (X : FVec Ideal ⟨4, ![n0, n1, n2, n3]⟩ φ) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

theorem num3_val {n0 n1 n2 : ℕ} {φ : FTy} (X : FVec Ideal ⟨3, ![n0, n1, n2]⟩ φ) (y : (⟨3, ![n0, n1, n2]⟩ : Shape).Idx) (a b c : ℕ)
    (ha : a = (y 0).val) (hb : b = (y 1).val) (hc : c = (y 2).val) : num3 X a b c = X y := by
  subst ha hb hc
  rw [num3, dif_pos ⟨(y 0).isLt, (y 1).isLt, (y 2).isLt⟩]
  exact congrArg X (eq_ix3 y).symm

theorem num4_val {n0 n1 n2 n3 : ℕ} {φ : FTy} (X : FVec Ideal ⟨4, ![n0, n1, n2, n3]⟩ φ) (y : (⟨4, ![n0, n1, n2, n3]⟩ : Shape).Idx)
    (a b c d : ℕ) (ha : a = (y 0).val) (hb : b = (y 1).val) (hc : c = (y 2).val) (hd : d = (y 3).val) : num4 X a b c d = X y := by
  subst ha hb hc hd
  rw [num4, dif_pos ⟨(y 0).isLt, (y 1).isLt, (y 2).isLt, (y 3).isLt⟩]
  exact congrArg X (eq_ix4 y).symm

/-! ## Loads of inputs -/

variable {sig : RefSig} {κ : Kind} {sp : Space}

/-- One head's block of an input with four axes, for a format with 8-bit elements. -/
instance {n1 a b h : ℕ} (M : Memref sig κ sp ⟨4, ![1, n1, a, b]⟩ .fp8e4m3) (hM : M.IsWhole) (Y : FVec Ideal ⟨4, ![1, n1, a, b]⟩ .fp8e4m3)
    (inb : ∀ x, (![0, h, 0, 0] : Fin 4 → ℕ) x + (![1, 1, a, b] : Fin 4 → ℕ) x ≤ (⟨4, ![1, n1, a, b]⟩ : Shape).size x) :
    Tab4 (φ := .fp8e4m3) (View.readAt (Elt Ideal) M.view (Rect.unit (s := ⟨4, ![1, n1, a, b]⟩) ![0, h, 0, 0] ![1, 1, a, b] inb).toLoadRect (hM.unread Y))
      (fun i j => num4 Y 0 h i j) :=
  ⟨fun i j => by
    rw [View.readAt_apply, hM.read_unread]
    refine (num4_val Y _ 0 h i j ?_ ?_ ?_ ?_).symm
    · rfl
    · rfl
    · show i.val = 0 + 1 * i.val; omega
    · show j.val = 0 + 1 * j.val; omega⟩

/-- The same for the other format with 8-bit elements. -/
instance {n1 a b h : ℕ} (M : Memref sig κ sp ⟨4, ![1, n1, a, b]⟩ .fp8e5m2) (hM : M.IsWhole) (Y : FVec Ideal ⟨4, ![1, n1, a, b]⟩ .fp8e5m2)
    (inb : ∀ x, (![0, h, 0, 0] : Fin 4 → ℕ) x + (![1, 1, a, b] : Fin 4 → ℕ) x ≤ (⟨4, ![1, n1, a, b]⟩ : Shape).size x) :
    Tab4 (φ := .fp8e5m2) (View.readAt (Elt Ideal) M.view (Rect.unit (s := ⟨4, ![1, n1, a, b]⟩) ![0, h, 0, 0] ![1, 1, a, b] inb).toLoadRect (hM.unread Y))
      (fun i j => num4 Y 0 h i j) :=
  ⟨fun i j => by
    rw [View.readAt_apply, hM.read_unread]
    refine (num4_val Y _ 0 h i j ?_ ?_ ?_ ?_).symm
    · rfl
    · rfl
    · show i.val = 0 + 1 * i.val; omega
    · show j.val = 0 + 1 * j.val; omega⟩

/-- One row of an input with three axes, at offsets the grid point gives. -/
instance {n0 n1 n2 b : ℕ} (off : Fin 3 → ℕ) (M : Memref sig κ sp ⟨3, ![n0, n1, n2]⟩ .f32) (hM : M.IsWhole) (Y : FVec Ideal ⟨3, ![n0, n1, n2]⟩ .f32)
    (inb : ∀ x, off x + (![1, 1, b] : Fin 3 → ℕ) x ≤ (⟨3, ![n0, n1, n2]⟩ : Shape).size x) :
    Tab3 (φ := .f32) (View.readAt (Elt Ideal) M.view (Rect.unit (s := ⟨3, ![n0, n1, n2]⟩) off ![1, 1, b] inb).toLoadRect (hM.unread Y))
      (fun _ j => num3 Y (off 0) (off 1) (off 2 + j)) :=
  ⟨fun i j => by
    rw [View.readAt_apply, hM.read_unread]
    refine (num3_val Y _ _ _ _ ?_ ?_ ?_).symm
    · show off 0 = off 0 + 1 * 0; omega
    · show off 1 = off 1 + 1 * i.val; have := i.isLt; omega
    · show off 2 + j.val = off 2 + 1 * j.val; omega⟩

/-- One element of an input with three axes, at offsets the grid point gives. -/
theorem readAt_first {n0 n1 n2 : ℕ} (off : Fin 3 → ℕ) (M : Memref sig κ sp ⟨3, ![n0, n1, n2]⟩ .f32) (hM : M.IsWhole)
    (Y : FVec Ideal ⟨3, ![n0, n1, n2]⟩ .f32) (inb : ∀ x, off x + (![1, 1, 1] : Fin 3 → ℕ) x ≤ (⟨3, ![n0, n1, n2]⟩ : Shape).size x)
    (h : 0 < (⟨3, ![1, 1, 1]⟩ : Shape).numel) :
    View.readAt (Elt Ideal) M.view (Rect.unit (s := ⟨3, ![n0, n1, n2]⟩) off ![1, 1, 1] inb).toLoadRect (hM.unread Y) (Shape.Idx.first h)
      = num3 Y (off 0) (off 1) (off 2) := by
  have h0 : ∀ z : Fin 1, z.val = 0 := fun z => by omega
  rw [View.readAt_apply, hM.read_unread]
  refine (num3_val Y _ _ _ _ ?_ ?_ ?_).symm
  · show off 0 = off 0 + 1 * (Shape.Idx.first h 0).val; rw [h0 (Shape.Idx.first h 0)]; rfl
  · show off 1 = off 1 + 1 * (Shape.Idx.first h 1).val; rw [h0 (Shape.Idx.first h 1)]; rfl
  · show off 2 = off 2 + 1 * (Shape.Idx.first h 2).val; rw [h0 (Shape.Idx.first h 2)]; rfl

/-! ## Scratch buffers -/

/-- The pieces `L` of a scratch buffer with two slots leave `g s r c` at slot `s`, row `r`, column `c`, wherever the column's group of 128 is not beyond
    the row's. -/
class HoldsLow (L : List (View.Piece (Elt Ideal) ⟨3, ![2, 640, 640]⟩ .bf16)) (g : outParam (ℕ → ℕ → ℕ → EReal)) : Prop where
  /-- The buffer at an index on or below the diagonal blocks. -/
  get : ∀ y : (⟨3, ![2, 640, 640]⟩ : Shape).Idx, (y 2).val / 128 ≤ (y 1).val / 128 → (View.canon L y : EReal) = g (y 0).val (y 1).val (y 2).val

/-- The pieces `L` of a scratch buffer with two slots leave `g s r c` at slot `s`, row `r`, column `c`. -/
class HoldsAll {A : ℕ} (L : List (View.Piece (Elt Ideal) ⟨3, ![2, A, 640]⟩ .bf16)) (g : outParam (ℕ → ℕ → ℕ → EReal)) : Prop where
  /-- The buffer at an index. -/
  get : ∀ y : (⟨3, ![2, A, 640]⟩ : Shape).Idx, (View.canon L y : EReal) = g (y 0).val (y 1).val (y 2).val

/-- Columns from `c`, `b` of them, are not beyond the group of 128 that starts at row `r`. -/
class Below (r c b : ℕ) : Prop where
  /-- The condition. -/
  out : r % 128 = 0 ∧ c + b ≤ r + 128

instance : Below 0 0 128 := ⟨by decide⟩
instance : Below 128 128 128 := ⟨by decide⟩
instance : Below 256 256 128 := ⟨by decide⟩
instance : Below 384 384 128 := ⟨by decide⟩
instance : Below 512 512 128 := ⟨by decide⟩
instance : Below 128 0 256 := ⟨by decide⟩
instance : Below 384 0 512 := ⟨by decide⟩
instance : Below 384 256 256 := ⟨by decide⟩

/-- A load of blocks on or below the diagonal. -/
instance {s r c a b : ℕ} (v : View sig κ sp ⟨3, ![2, 640, 640]⟩ .bf16) (L : List (View.Piece (Elt Ideal) ⟨3, ![2, 640, 640]⟩ .bf16))
    (g : ℕ → ℕ → ℕ → EReal) [hL : HoldsLow L g] [hb : Below r c b]
    (inb : ∀ x, (![s, r, c] : Fin 3 → ℕ) x + (![1, a, b] : Fin 3 → ℕ) x ≤ (⟨3, ![2, 640, 640]⟩ : Shape).size x) :
    Tab3 (φ := .bf16) (v.readCov L (Rect.unit (s := ⟨3, ![2, 640, 640]⟩) ![s, r, c] ![1, a, b] inb).toLoadRect)
      (fun i j => g s (r + i) (c + j)) :=
  ⟨fun i j => by
    obtain ⟨h1, h2⟩ := hb.out
    have hi := i.isLt
    have hj := j.isLt
    rw [View.readCov_eq_canon']
    refine (hL.get _ ?_).trans ?_
    · show (c + 1 * j.val) / 128 ≤ (r + 1 * i.val) / 128
      omega
    · show g (s + 1 * 0) (r + 1 * i.val) (c + 1 * j.val) = _
      simp only [Nat.one_mul, Nat.mul_zero, Nat.add_zero]⟩

/-- A load of part of one slot, through that slot's two-axis view. -/
instance {A s r c a b : ℕ} (v : View sig κ sp ⟨3, ![2, A, 640]⟩ .bf16) (L : List (View.Piece (Elt Ideal) ⟨3, ![2, A, 640]⟩ .bf16))
    (g : ℕ → ℕ → ℕ → EReal) [hL : HoldsAll L g]
    (inb : ∀ x, (![s, 0, 0] : Fin 3 → ℕ) x + (![1, A, 640] : Fin 3 → ℕ) x ≤ (⟨3, ![2, A, 640]⟩ : Shape).size x)
    (inb' : ∀ x, (![r, c] : Fin 2 → ℕ) x + (![a, b] : Fin 2 → ℕ) x ≤ (⟨2, ![A, 640]⟩ : Shape).size x) (h0 h1 h2) :
    Tab2 (φ := .bf16) (LoadRect.valAlong (lr := (Rect.unit (s := ⟨2, ![A, 640]⟩) ![r, c] ![a, b] inb').toLoadRect)
      (LR := (Rect.unit (s := ⟨2, ![A, 640]⟩) ![r, c] ![a, b] inb').toLoadRect.consLift ![1, A, 640] h0 h1)
      ((Rect.unit (s := ⟨2, ![A, 640]⟩) ![r, c] ![a, b] inb').toLoadRect.numel_consLift ![1, A, 640] h0 h1)
      (v.readCov L ((Rect.unit (s := ⟨3, ![2, A, 640]⟩) ![s, 0, 0] ![1, A, 640] inb).withinL
          ((Rect.unit (s := ⟨2, ![A, 640]⟩) ![r, c] ![a, b] inb').toLoadRect.consLift ![1, A, 640] h0 h1) h2)))
      (fun i j => g s (r + i) (c + j)) :=
  ⟨fun i j => by
    have hR := (Rect.unit (s := ⟨2, ![A, 640]⟩) ![r, c] ![a, b] inb').toLoadRect.numel_consLift ![1, A, 640] h0 h1
    have e : Shape.reshapeEquiv (s := (⟨3, ![1, a, b]⟩ : Shape)) (s' := (⟨2, ![a, b]⟩ : Shape)) hR (ix2 i j) = ix3 (0 : Fin 1) i j := by
      refine Shape.reshapeEquiv_eq_of_rowMajor hR ?_
      refine (Shape.rowMajor_val_three (d := ![1, a, b]) (ix3 0 i j)).trans (Eq.trans ?_ (Shape.rowMajor_val_two (d := ![a, b]) (ix2 i j)).symm)
      show (0 * a + i.val) * b + j.val = i.val * b + j.val
      rw [Nat.zero_mul, Nat.zero_add]
    refine (congrArg (v.readCov L ((Rect.unit (s := ⟨3, ![2, A, 640]⟩) ![s, 0, 0] ![1, A, 640] inb).withinL
          ((Rect.unit (s := ⟨2, ![A, 640]⟩) ![r, c] ![a, b] inb').toLoadRect.consLift ![1, A, 640] h0 h1) h2)) e).trans ?_
    rw [View.readCov_eq_canon']
    refine (hL.get _).trans ?_
    show g ((s + 0) + 1 * 0) ((0 + r) + 1 * i.val) ((0 + c) + 1 * j.val) = _
    simp only [Nat.one_mul, Nat.mul_zero, Nat.add_zero, Nat.zero_add]⟩

/-! ## Stored pieces -/

/-- A stored piece is a block of `g` when its coordinate function is. -/
theorem piece3 {S A B a b s r c : ℕ} {inb} (X : FVec Ideal ⟨3, ![1, a, b]⟩ .bf16) {f : ℕ → ℕ → EReal} [hX : Tab3 X f]
    (g : ℕ → ℕ → ℕ → EReal) (h : ∀ i, i < a → ∀ j, j < b → f i j = g s (r + i) (c + j)) :
    ∀ x : (Rect.unit (s := ⟨3, ![S, A, B]⟩) ![s, r, c] ![1, a, b] inb).shape.Idx, (X x : Ideal .bf16)
      = (fun y : (⟨3, ![S, A, B]⟩ : Shape).Idx => (g (y 0).val (y 1).val (y 2).val : Ideal .bf16)) ((Rect.unit (s := ⟨3, ![S, A, B]⟩) ![s, r, c] ![1, a, b] inb).emb x) := by
  intro x
  obtain ⟨u, i, j, rfl⟩ : ∃ (u : Fin 1) (i : Fin a) (j : Fin b), x = ix3 u i j := ⟨_, _, _, eq_ix3 x⟩
  obtain rfl : u = 0 := Subsingleton.elim _ _
  show _ = g (s + 1 * 0) (r + 1 * i.val) (c + 1 * j.val)
  rw [hX.get, h _ i.isLt _ j.isLt]
  simp only [Nat.one_mul, Nat.mul_zero, Nat.add_zero]

/-- A stored piece with two leading unit axes is a block of `g` when its coordinate function is. -/
theorem piece4 {S A B a b s r c : ℕ} {inb} (X : FVec Ideal ⟨4, ![1, 1, a, b]⟩ .bf16) {f : ℕ → ℕ → EReal} [hX : Tab4 X f]
    (g : ℕ → ℕ → ℕ → EReal) (h : ∀ i, i < a → ∀ j, j < b → f i j = g s (r + i) (c + j)) :
    ∀ x : (Rect.unit (s := ⟨4, ![1, S, A, B]⟩) ![0, s, r, c] ![1, 1, a, b] inb).shape.Idx, (X x : Ideal .bf16)
      = (fun y : (⟨4, ![1, S, A, B]⟩ : Shape).Idx => (g (y 1).val (y 2).val (y 3).val : Ideal .bf16)) ((Rect.unit (s := ⟨4, ![1, S, A, B]⟩) ![0, s, r, c] ![1, 1, a, b] inb).emb x) := by
  intro x
  obtain ⟨u, w, i, j, rfl⟩ : ∃ (u : Fin 1) (w : Fin 1) (i : Fin a) (j : Fin b), x = ix4 u w i j := ⟨_, _, _, _, eq_ix4 x⟩
  obtain rfl : u = 0 := Subsingleton.elim _ _
  obtain rfl : w = 0 := Subsingleton.elim _ _
  show _ = g (s + 1 * 0) (r + 1 * i.val) (c + 1 * j.val)
  rw [hX.get, h _ i.isLt _ j.isLt]
  simp only [Nat.one_mul, Nat.mul_zero, Nat.add_zero]

/-- Some piece of the list covers every index from `lo` up to but not including `hi`. -/
def spans {s : Shape} {e : EltTy} (L : List (View.Piece (Elt Ideal) s e)) (lo hi : Fin s.rank → ℕ) : Bool :=
  L.any fun p => decide (∀ a, p.1.off a ≤ lo a ∧ hi a ≤ p.1.off a + p.1.size a ∧ p.1.stride a = 1)

theorem mem_of_spans {s : Shape} {e : EltTy} {L : List (View.Piece (Elt Ideal) s e)} {lo hi : Fin s.rank → ℕ} (h : spans L lo hi = true) (y : s.Idx)
    (hy : ∀ a, lo a ≤ (y a).val ∧ (y a).val < hi a) : ∃ p ∈ L, y ∈ p.1.set := by
  obtain ⟨p, hp, hd⟩ := List.any_eq_true.mp h
  have hd := of_decide_eq_true hd
  refine ⟨p, hp, p.1.mem_set.mpr fun a => ⟨(y a).val - p.1.off a, ?_, ?_⟩⟩
  · have h1 := hd a; have h2 := hy a; omega
  · have h1 := hd a; have h2 := hy a; rw [h1.2.2]; omega

/-- The first `n` pieces cover both slots on and below the diagonal blocks. -/
def spansLow (L : List (View.Piece (Elt Ideal) ⟨3, ![2, 640, 640]⟩ .bf16)) : Bool :=
  (List.range 2).all fun s => (List.range 5).all fun R => (List.range 5).all fun C =>
    decide (R < C) || spans L ![s, 128 * R, 128 * C] ![s + 1, 128 * R + 128, 128 * C + 128]

/-- The pieces cover both slots. -/
def spansAll {A : ℕ} (L : List (View.Piece (Elt Ideal) ⟨3, ![2, A, 640]⟩ .bf16)) : Bool :=
  (List.range 2).all fun s => (List.range 5).all fun C => spans L ![s, 0, 128 * C] ![s + 1, A, 128 * C + 128]

/-- The newest `n` pieces decide the buffer, when they are blocks of `g` and cover it. -/
theorem holdsLow_of_take (n : ℕ) {L : List (View.Piece (Elt Ideal) ⟨3, ![2, 640, 640]⟩ .bf16)} {g : ℕ → ℕ → ℕ → EReal}
    (h : View.PiecesOf (Val := Elt Ideal) (s := ⟨3, ![2, 640, 640]⟩) (e := .bf16) (fun y => (g (y 0).val (y 1).val (y 2).val : Ideal .bf16)) (L.take n))
    (hc : spansLow (L.take n) = true) : HoldsLow L g :=
  ⟨fun y hy => by
    have hc := List.all_eq_true.mp (List.all_eq_true.mp (List.all_eq_true.mp hc (y 0).val (List.mem_range.mpr (y 0).isLt))
      ((y 1).val / 128) (List.mem_range.mpr (by have : (y 1).val < 640 := (y 1).isLt; omega)))
      ((y 2).val / 128) (List.mem_range.mpr (by have : (y 2).val < 640 := (y 2).isLt; omega))
    rw [Bool.or_eq_true, decide_eq_true_eq] at hc
    conv_lhs => rw [← List.take_append_drop n L]
    exact View.canon_append_of_piecesOf _ _ _ h y (mem_of_spans (hc.resolve_left (by omega)) y (fun a => by
      match a with
      | ⟨0, _⟩ => exact ⟨Nat.le_refl _, Nat.lt_succ_self _⟩
      | ⟨1, _⟩ => show 128 * ((y 1).val / 128) ≤ (y 1).val ∧ (y 1).val < 128 * ((y 1).val / 128) + 128; omega
      | ⟨2, _⟩ => show 128 * ((y 2).val / 128) ≤ (y 2).val ∧ (y 2).val < 128 * ((y 2).val / 128) + 128; omega))⟩

/-- The newest `n` pieces decide the buffer, when they are blocks of `g` and cover it. -/
theorem holdsAll_of_take (n : ℕ) {A : ℕ} {L : List (View.Piece (Elt Ideal) ⟨3, ![2, A, 640]⟩ .bf16)} {g : ℕ → ℕ → ℕ → EReal}
    (h : View.PiecesOf (Val := Elt Ideal) (s := ⟨3, ![2, A, 640]⟩) (e := .bf16) (fun y => (g (y 0).val (y 1).val (y 2).val : Ideal .bf16)) (L.take n))
    (hc : spansAll (L.take n) = true) : HoldsAll L g :=
  ⟨fun y => by
    have hc := List.all_eq_true.mp (List.all_eq_true.mp hc (y 0).val (List.mem_range.mpr (y 0).isLt))
      ((y 2).val / 128) (List.mem_range.mpr (by have : (y 2).val < 640 := (y 2).isLt; omega))
    conv_lhs => rw [← List.take_append_drop n L]
    exact View.canon_append_of_piecesOf _ _ _ h y (mem_of_spans hc y (fun a => by
      match a with
      | ⟨0, _⟩ => exact ⟨Nat.le_refl _, Nat.lt_succ_self _⟩
      | ⟨1, _⟩ => exact ⟨Nat.zero_le _, (y 1).isLt⟩
      | ⟨2, _⟩ => show 128 * ((y 2).val / 128) ≤ (y 2).val ∧ (y 2).val < 128 * ((y 2).val / 128) + 128; omega))⟩

end Cert.Value

end
-- ==== Proof.Spec.lean ====
/-
  What the kernel leaves in its scratch buffers and in its three results, as functions of coordinates: the masked scores of a head, the three weighted
  operands, and the results as sums over all 640 positions of the sequence.
-/
module

public import proofs.«01_k».proof.Proof.Blocks

@[expose] public section

noncomputable section

namespace Cert.Value

open Idealize.ShloMosaic Idealize.ShloMosaic.ValueIdx
open scoped BigOperators

/-- The causally masked score of positions `t` and `s` in head `h`: the product summed over the `E` rows, zero when `s` is after `t`. -/
def score {n E : ℕ} {φ ψ : FTy} (X : FVec Ideal ⟨4, ![1, n, E, 640]⟩ φ) (Y : FVec Ideal ⟨4, ![1, n, E, 640]⟩ ψ) (h t s : ℕ) : EReal :=
  if s ≤ t then ∑ k ∈ Finset.range E, num4 X 0 h k t * num4 Y 0 h k s else 0

/-- Two heads in the two slots of a scratch buffer. -/
def slots (f g : ℕ → ℕ → EReal) (s r c : ℕ) : EReal := if s = 0 then f r c else g r c

theorem slots_zero (f g : ℕ → ℕ → EReal) (r c : ℕ) : slots f g 0 r c = f r c := rfl

theorem slots_one (f g : ℕ → ℕ → EReal) (r c : ℕ) : slots f g 1 r c = g r c := rfl

/-- An operand with each position scaled by its weight and by its chunk's scale. -/
def posWeighted {n E n1 s0 s1 : ℕ} {φ : FTy} (X : FVec Ideal ⟨4, ![1, n, E, 640]⟩ φ) (W : FVec Ideal ⟨3, ![1, n1, 640]⟩ .f32)
    (S : FVec Ideal ⟨3, ![5, s0, s1]⟩ .f32) (i0 i1 h d t : ℕ) : EReal :=
  num4 X 0 h d t * (num3 W 0 (4 * i1 + h) t * num3 S (t / 128) i0 (4 * i1 + h))

/-- An operand with each position scaled by the product of two of its chunk's scales. -/
def chunkWeighted {n E s0 s1 : ℕ} {φ : FTy} (X : FVec Ideal ⟨4, ![1, n, E, 640]⟩ φ) (S T : FVec Ideal ⟨3, ![5, s0, s1]⟩ .f32)
    (i0 i1 h d t : ℕ) : EReal :=
  num4 X 0 h d t * (num3 S (t / 128) i0 (4 * i1 + h) * num3 T (t / 128) i0 (4 * i1 + h))

/-- The pattern of zero bits is zero. -/
theorem ofBits_zero_eq : (FloatOps.ofBits .f32 0#32 : Ideal .f32) = (0 : EReal) := Ideal.ofBits_zero_f32

/-! ## Sums over part of the sequence -/

theorem sum_window {F : ℕ → EReal} {a n : ℕ} (hn : a + n ≤ 640) (h0 : ∀ s, s < 640 → (s < a ∨ a + n ≤ s) → F s = 0) :
    ∑ k ∈ Finset.range n, F (a + k) = ∑ s ∈ Finset.range 640, F s := by
  have e : 640 = a + (n + (640 - a - n)) := by omega
  rw [e, Finset.sum_range_add, Finset.sum_range_add]
  rw [Finset.sum_eq_zero (s := Finset.range a) fun s hs => h0 s (by have := Finset.mem_range.mp hs; omega) (Or.inl (Finset.mem_range.mp hs))]
  rw [Finset.sum_eq_zero (s := Finset.range (640 - a - n)) fun s hs =>
    h0 (a + (n + s)) (by have := Finset.mem_range.mp hs; omega) (Or.inr (by omega))]
  rw [zero_add, add_zero]

/-- A product over one window of positions is the sum over all of them, when the others contribute nothing. -/
theorem one_window {F f : ℕ → EReal} (a n : ℕ) (hn : a + n ≤ 640) (hf : ∀ k, k < n → f k = F (a + k))
    (h0 : ∀ s, s < 640 → (s < a ∨ a + n ≤ s) → F s = 0) : ∑ k ∈ Finset.range n, f k = ∑ s ∈ Finset.range 640, F s := by
  rw [Finset.sum_congr rfl fun k hk => hf k (Finset.mem_range.mp hk), sum_window hn h0]

/-- Two adjacent windows of positions, when the others contribute nothing. -/
theorem two_windows {F f g : ℕ → EReal} (a n m : ℕ) (hn : a + (n + m) ≤ 640) (hf : ∀ k, k < n → f k = F (a + k))
    (hg : ∀ k, k < m → g k = F (a + (n + k))) (h0 : ∀ s, s < 640 → (s < a ∨ a + (n + m) ≤ s) → F s = 0) :
    ∑ k ∈ Finset.range n, f k + ∑ k ∈ Finset.range m, g k = ∑ s ∈ Finset.range 640, F s := by
  rw [Finset.sum_congr rfl fun k hk => hf k (Finset.mem_range.mp hk), Finset.sum_congr rfl fun k hk => hg k (Finset.mem_range.mp hk),
    ← Finset.sum_range_add (fun k => F (a + k)), sum_window hn h0]

/-! ## The results of a grid point -/

/-- The kernel's factor on all three results. -/
def factor : EReal := (FloatOps.ofBits .f32 0x3DA1E89B#32 : Ideal .f32)

section
variable {n n1 s0 s1 : ℕ}

/-- The gradient of the queries at head `h`, row `d`, position `t`. -/
def gradQ (K : FVec Ideal ⟨4, ![1, n, 160, 640]⟩ .fp8e4m3) (V : FVec Ideal ⟨4, ![1, n, 320, 640]⟩ .fp8e4m3) (D : FVec Ideal ⟨4, ![1, n, 320, 640]⟩ .fp8e5m2)
    (W : FVec Ideal ⟨3, ![1, n1, 640]⟩ .f32) (ks vs : FVec Ideal ⟨3, ![5, s0, s1]⟩ .f32) (i0 i1 h d t : ℕ) : EReal :=
  (∑ s ∈ Finset.range 640, chunkWeighted K vs ks i0 i1 h d s * score D V h t s) * (num3 W 0 (4 * i1 + h) t * factor)

/-- The gradient of the keys at head `h`, row `d`, position `s`. -/
def gradK (Q : FVec Ideal ⟨4, ![1, n, 160, 640]⟩ .fp8e4m3) (V : FVec Ideal ⟨4, ![1, n, 320, 640]⟩ .fp8e4m3) (D : FVec Ideal ⟨4, ![1, n, 320, 640]⟩ .fp8e5m2)
    (W : FVec Ideal ⟨3, ![1, n1, 640]⟩ .f32) (qs vs : FVec Ideal ⟨3, ![5, s0, s1]⟩ .f32) (i0 i1 h d s : ℕ) : EReal :=
  (∑ t ∈ Finset.range 640, posWeighted Q W qs i0 i1 h d t * score D V h t s) * (num3 vs (s / 128) i0 (4 * i1 + h) * factor)

/-- The gradient of the values at head `h`, row `e`, position `s`. -/
def gradV (Q K : FVec Ideal ⟨4, ![1, n, 160, 640]⟩ .fp8e4m3) (D : FVec Ideal ⟨4, ![1, n, 320, 640]⟩ .fp8e5m2) (W : FVec Ideal ⟨3, ![1, n1, 640]⟩ .f32)
    (qs ks : FVec Ideal ⟨3, ![5, s0, s1]⟩ .f32) (i0 i1 h e s : ℕ) : EReal :=
  (∑ t ∈ Finset.range 640, posWeighted D W qs i0 i1 h e t * score Q K h t s) * (num3 ks (s / 128) i0 (4 * i1 + h) * factor)

end

end Cert.Value

end
-- ==== Proof.ScoreA.lean ====
/-
  The kernel's first scratch buffer: the masked scores of the output gradients with the values, two heads at a time.
-/
module

public import proofs.«01_k».proof.Proof.Spec
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

variable (c : Dev nD) (arg7 : Memref sig .tc .vmem S1x4x320x640 .fp8e4m3) (h7 : arg7.IsWhole) (arg8 : Memref sig .tc .vmem S1x4x320x640 .fp8e5m2)
  (h8 : arg8.IsWhole) (x5 : FVec Ideal S1x4x320x640 .fp8e4m3) (x6 : FVec Ideal S1x4x320x640 .fp8e5m2)

/-- The buffer after the scores of heads 0 and 1, after those of head 2 replaced head 0's, and after those of head 3 replaced head 1's. -/
theorem scoresA :
    HoldsLow (kernelRun0_A.sl.HS0_30 c arg7 h7 arg8 h8 x5 x6) (slots (score x6 x5 0) (score x6 x5 1))
    ∧ HoldsLow (kernelRun0_A.sl.HS0_45 c arg7 h7 arg8 h8 x5 x6) (slots (score x6 x5 2) (score x6 x5 1))
    ∧ HoldsLow (kernelRun0_A.sl.HS0_60 c arg7 h7 arg8 h8 x5 x6) (slots (score x6 x5 2) (score x6 x5 3)) := by
  refine ⟨holdsLow_of_take 30 ?_ ?_, holdsLow_of_take 30 ?_ ?_, holdsLow_of_take 30 ?_ ?_⟩
  all_goals first
    | (sl_unfold_run_values
       sl_kernel_rfl)
    | skip
  all_goals
    sl_unfold_run_values
    simp only [List.take_succ_cons, List.take_zero, View.PiecesOf]
    repeat' apply And.intro
  all_goals first | exact trivial | skip
  all_goals
    dsimp only
    sl_unfold_run_values
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211, k0_pay212,
      k0_pay213, k0_pay214, k0_pay215, k0_pay216, k0_pay217, k0_pay218, k0_pay219, k0_pay220, k0_pay221, k0_pay222, k0_pay223, k0_pay224,
      k0_pay225, k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281, k0_pay282, k0_pay283, k0_pay284,
      k0_pay285, k0_pay286, k0_pay287, k0_pay288, k0_pay289, k0_pay290, k0_pay291, k0_pay292, k0_pay293, k0_pay294, k0_pay295, k0_pay296,
      k0_pay297, k0_pay298, k0_pay299, k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353, k0_pay354, k0_pay355, k0_pay356,
      k0_pay357, k0_pay358, k0_pay359, k0_pay360, k0_pay361, k0_pay362, k0_pay363, k0_pay364, k0_pay365, k0_pay366, k0_pay367, k0_pay368,
      k0_pay369, k0_pay370, k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390, k0_pay391, k0_pay392,
      k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416,
      k0_pay417, k0_pay418, k0_pay419, k0_pay420, k0_pay421, k0_pay422, k0_pay423, k0_pay424, k0_pay425, k0_pay426, k0_pay427, k0_pay428,
      k0_pay429, k0_pay430, k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450, k0_pay451, k0_pay452,
      k0_pay453, k0_pay454, k0_pay455, k0_pay456, k0_pay457, k0_pay458, k0_pay459, k0_pay460, k0_pay461, k0_pay462, k0_pay463, k0_pay464,
      k0_pay465, k0_pay466, k0_pay467, k0_pay468, dot_S160x128_S128x128_S160x128_1_0_0_1_n_n, dot_S160x128_S128x128_S160x128_1_1_0_0_n_n,
      dot_S160x128_S160x128_S128x128_0_0_1_1_n_n, dot_S160x128_S160x256_S128x256_0_0_1_1_n_n, dot_S160x256_S256x256_S160x256_1_0_0_1_n_n,
      dot_S160x256_S256x256_S160x256_1_1_0_0_n_n, dot_S160x384_S160x256_S384x256_0_0_1_1_n_n, dot_S160x512_S256x512_S160x256_1_1_0_0_n_n,
      dot_S160x512_S512x256_S160x256_1_0_0_1_n_n, dot_S320x128_S128x128_S320x128_1_0_0_1_n_n, dot_S320x128_S320x128_S128x128_0_0_1_1_n_n,
      dot_S320x128_S320x256_S128x256_0_0_1_1_n_n, dot_S320x256_S256x256_S320x256_1_0_0_1_n_n, dot_S320x256_S320x256_S256x256_0_0_1_1_n_n,
      dot_S320x512_S512x256_S320x256_1_0_0_1_n_n]
    refine piece3 _ _ ?_
    intro i hi j hj
    simp only [Nat.zero_add, zero_add, ← Nat.add_assoc, Nat.reduceAdd, slots_zero, slots_one, score, ofBits_zero_eq, Nat.add_le_add_iff_left]
    first | done | exact (if_pos (by omega)).symm

instance : HoldsLow (kernelRun0_A.sl.HS0_30 c arg7 h7 arg8 h8 x5 x6) (slots (score x6 x5 0) (score x6 x5 1)) := (scoresA c arg7 h7 arg8 h8 x5 x6).1
instance : HoldsLow (kernelRun0_A.sl.HS0_45 c arg7 h7 arg8 h8 x5 x6) (slots (score x6 x5 2) (score x6 x5 1)) := (scoresA c arg7 h7 arg8 h8 x5 x6).2.1
instance : HoldsLow (kernelRun0_A.sl.HS0_60 c arg7 h7 arg8 h8 x5 x6) (slots (score x6 x5 2) (score x6 x5 3)) := (scoresA c arg7 h7 arg8 h8 x5 x6).2.2

end Cert.KernelIdeal.Gen

end
-- ==== Proof.ScoreP.lean ====
/-
  The kernel's second scratch buffer: the masked scores of the queries with the keys, two heads at a time.
-/
module

public import proofs.«01_k».proof.Proof.Spec
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

variable (c : Dev nD) (arg5 : Memref sig .tc .vmem S1x4x160x640 .fp8e4m3) (h5 : arg5.IsWhole) (arg6 : Memref sig .tc .vmem S1x4x160x640 .fp8e4m3)
  (h6 : arg6.IsWhole) (x3 : FVec Ideal S1x4x160x640 .fp8e4m3) (x4 : FVec Ideal S1x4x160x640 .fp8e4m3)

/-- The buffer after the scores of heads 0 and 1, after those of head 2 replaced head 0's, and after those of head 3 replaced head 1's. -/
theorem scoresP :
    HoldsLow (kernelRun0_A.sl.HS1_30 c arg5 h5 arg6 h6 x3 x4) (slots (score x3 x4 0) (score x3 x4 1))
    ∧ HoldsLow (kernelRun0_A.sl.HS1_45 c arg5 h5 arg6 h6 x3 x4) (slots (score x3 x4 2) (score x3 x4 1))
    ∧ HoldsLow (kernelRun0_A.sl.HS1_60 c arg5 h5 arg6 h6 x3 x4) (slots (score x3 x4 2) (score x3 x4 3)) := by
  refine ⟨holdsLow_of_take 30 ?_ ?_, holdsLow_of_take 30 ?_ ?_, holdsLow_of_take 30 ?_ ?_⟩
  all_goals first
    | (sl_unfold_run_values
       sl_kernel_rfl)
    | skip
  all_goals
    sl_unfold_run_values
    simp only [List.take_succ_cons, List.take_zero, View.PiecesOf]
    repeat' apply And.intro
  all_goals first | exact trivial | skip
  all_goals
    dsimp only
    sl_unfold_run_values
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211, k0_pay212,
      k0_pay213, k0_pay214, k0_pay215, k0_pay216, k0_pay217, k0_pay218, k0_pay219, k0_pay220, k0_pay221, k0_pay222, k0_pay223, k0_pay224,
      k0_pay225, k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281, k0_pay282, k0_pay283, k0_pay284,
      k0_pay285, k0_pay286, k0_pay287, k0_pay288, k0_pay289, k0_pay290, k0_pay291, k0_pay292, k0_pay293, k0_pay294, k0_pay295, k0_pay296,
      k0_pay297, k0_pay298, k0_pay299, k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353, k0_pay354, k0_pay355, k0_pay356,
      k0_pay357, k0_pay358, k0_pay359, k0_pay360, k0_pay361, k0_pay362, k0_pay363, k0_pay364, k0_pay365, k0_pay366, k0_pay367, k0_pay368,
      k0_pay369, k0_pay370, k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390, k0_pay391, k0_pay392,
      k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416,
      k0_pay417, k0_pay418, k0_pay419, k0_pay420, k0_pay421, k0_pay422, k0_pay423, k0_pay424, k0_pay425, k0_pay426, k0_pay427, k0_pay428,
      k0_pay429, k0_pay430, k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450, k0_pay451, k0_pay452,
      k0_pay453, k0_pay454, k0_pay455, k0_pay456, k0_pay457, k0_pay458, k0_pay459, k0_pay460, k0_pay461, k0_pay462, k0_pay463, k0_pay464,
      k0_pay465, k0_pay466, k0_pay467, k0_pay468, dot_S160x128_S128x128_S160x128_1_0_0_1_n_n, dot_S160x128_S128x128_S160x128_1_1_0_0_n_n,
      dot_S160x128_S160x128_S128x128_0_0_1_1_n_n, dot_S160x128_S160x256_S128x256_0_0_1_1_n_n, dot_S160x256_S256x256_S160x256_1_0_0_1_n_n,
      dot_S160x256_S256x256_S160x256_1_1_0_0_n_n, dot_S160x384_S160x256_S384x256_0_0_1_1_n_n, dot_S160x512_S256x512_S160x256_1_1_0_0_n_n,
      dot_S160x512_S512x256_S160x256_1_0_0_1_n_n, dot_S320x128_S128x128_S320x128_1_0_0_1_n_n, dot_S320x128_S320x128_S128x128_0_0_1_1_n_n,
      dot_S320x128_S320x256_S128x256_0_0_1_1_n_n, dot_S320x256_S256x256_S320x256_1_0_0_1_n_n, dot_S320x256_S320x256_S256x256_0_0_1_1_n_n,
      dot_S320x512_S512x256_S320x256_1_0_0_1_n_n]
    refine piece3 _ _ ?_
    intro i hi j hj
    simp only [Nat.zero_add, zero_add, ← Nat.add_assoc, Nat.reduceAdd, slots_zero, slots_one, score, ofBits_zero_eq, Nat.add_le_add_iff_left]
    first | done | exact (if_pos (by omega)).symm

instance : HoldsLow (kernelRun0_A.sl.HS1_30 c arg5 h5 arg6 h6 x3 x4) (slots (score x3 x4 0) (score x3 x4 1)) := (scoresP c arg5 h5 arg6 h6 x3 x4).1
instance : HoldsLow (kernelRun0_A.sl.HS1_45 c arg5 h5 arg6 h6 x3 x4) (slots (score x3 x4 2) (score x3 x4 1)) := (scoresP c arg5 h5 arg6 h6 x3 x4).2.1
instance : HoldsLow (kernelRun0_A.sl.HS1_60 c arg5 h5 arg6 h6 x3 x4) (slots (score x3 x4 2) (score x3 x4 3)) := (scoresP c arg5 h5 arg6 h6 x3 x4).2.2

end Cert.KernelIdeal.Gen

end
-- ==== Proof.Weights.lean ====
/-
  The kernel's last three scratch buffers: the weighted queries, keys and output gradients, two heads at a time.
-/
module

public import proofs.«01_k».proof.Proof.Spec
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

/-! The offsets of a grid point's rows and scales, for head `n` of its four. -/

theorem off1 (i : grid0.Coords) (n : ℕ) (h : n < 4) : k0_off1 i (BitVec.ofNat 32 n) = ![0, 4 * (i 1).val + n, 0] := k0_off1_eq i ⟨n, h⟩
theorem off2 (i : grid0.Coords) (n : ℕ) (h : n < 4) : k0_off2 i (BitVec.ofNat 32 n) = ![0, (i 0).val, 4 * (i 1).val + n] := k0_off2_eq i ⟨n, h⟩
theorem off3 (i : grid0.Coords) (n : ℕ) (h : n < 4) : k0_off3 i (BitVec.ofNat 32 n) = ![1, (i 0).val, 4 * (i 1).val + n] := k0_off3_eq i ⟨n, h⟩
theorem off4 (i : grid0.Coords) (n : ℕ) (h : n < 4) : k0_off4 i (BitVec.ofNat 32 n) = ![2, (i 0).val, 4 * (i 1).val + n] := k0_off4_eq i ⟨n, h⟩
theorem off5 (i : grid0.Coords) (n : ℕ) (h : n < 4) : k0_off5 i (BitVec.ofNat 32 n) = ![3, (i 0).val, 4 * (i 1).val + n] := k0_off5_eq i ⟨n, h⟩
theorem off6 (i : grid0.Coords) (n : ℕ) (h : n < 4) : k0_off6 i (BitVec.ofNat 32 n) = ![4, (i 0).val, 4 * (i 1).val + n] := k0_off6_eq i ⟨n, h⟩

variable (c : Dev nD) (i : grid0.Coords) (arg2 : Memref sig .tc .smem S5x3x20 .f32) (h2 : arg2.IsWhole) (arg3 : Memref sig .tc .smem S5x3x20 .f32)
  (h3 : arg3.IsWhole) (arg4 : Memref sig .tc .smem S5x3x20 .f32) (h4 : arg4.IsWhole) (arg5 : Memref sig .tc .vmem S1x4x160x640 .fp8e4m3)
  (h5 : arg5.IsWhole) (arg6 : Memref sig .tc .vmem S1x4x160x640 .fp8e4m3) (h6 : arg6.IsWhole) (arg8 : Memref sig .tc .vmem S1x4x320x640 .fp8e5m2)
  (h8 : arg8.IsWhole) (arg9 : Memref sig .tc .vmem S1x20x640 .f32) (h9 : arg9.IsWhole) (x0 x1 x2 : FVec Ideal S5x3x20 .f32)
  (x3 x4 : FVec Ideal S1x4x160x640 .fp8e4m3) (x6 : FVec Ideal S1x4x320x640 .fp8e5m2) (x7 : FVec Ideal S1x20x640 .f32)

/-- The queries, weighted by position: after heads 0 and 1, after head 2 replaced head 0, and after head 3 replaced head 1. -/
theorem weightedQ :
    HoldsAll (A := 160) (kernelRun0_A.sl.HS2_10 c i arg2 h2 arg5 h5 arg9 h9 x0 x3 x7)
        (slots (posWeighted x3 x7 x0 (i 0).val (i 1).val 0) (posWeighted x3 x7 x0 (i 0).val (i 1).val 1))
    ∧ HoldsAll (A := 160) (kernelRun0_A.sl.HS2_15 c i arg2 h2 arg5 h5 arg9 h9 x0 x3 x7)
        (slots (posWeighted x3 x7 x0 (i 0).val (i 1).val 2) (posWeighted x3 x7 x0 (i 0).val (i 1).val 1))
    ∧ HoldsAll (A := 160) (kernelRun0_A.sl.HS2_20 c i arg2 h2 arg5 h5 arg9 h9 x0 x3 x7)
        (slots (posWeighted x3 x7 x0 (i 0).val (i 1).val 2) (posWeighted x3 x7 x0 (i 0).val (i 1).val 3)) := by
  refine ⟨?_, ?_, ?_⟩
  all_goals refine holdsAll_of_take 10 ?_ ?_
  all_goals first
    | (sl_unfold_run_values
       sl_kernel_rfl)
    | skip
  all_goals
    sl_unfold_run_values
    simp only [List.take_succ_cons, List.take_zero, View.PiecesOf]
    repeat' apply And.intro
  all_goals first | exact trivial | skip
  all_goals
    dsimp only
    sl_unfold_run_values
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211, k0_pay212,
      k0_pay213, k0_pay214, k0_pay215, k0_pay216, k0_pay217, k0_pay218, k0_pay219, k0_pay220, k0_pay221, k0_pay222, k0_pay223, k0_pay224,
      k0_pay225, k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281, k0_pay282, k0_pay283, k0_pay284,
      k0_pay285, k0_pay286, k0_pay287, k0_pay288, k0_pay289, k0_pay290, k0_pay291, k0_pay292, k0_pay293, k0_pay294, k0_pay295, k0_pay296,
      k0_pay297, k0_pay298, k0_pay299, k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353, k0_pay354, k0_pay355, k0_pay356,
      k0_pay357, k0_pay358, k0_pay359, k0_pay360, k0_pay361, k0_pay362, k0_pay363, k0_pay364, k0_pay365, k0_pay366, k0_pay367, k0_pay368,
      k0_pay369, k0_pay370, k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390, k0_pay391, k0_pay392,
      k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416,
      k0_pay417, k0_pay418, k0_pay419, k0_pay420, k0_pay421, k0_pay422, k0_pay423, k0_pay424, k0_pay425, k0_pay426, k0_pay427, k0_pay428,
      k0_pay429, k0_pay430, k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450, k0_pay451, k0_pay452,
      k0_pay453, k0_pay454, k0_pay455, k0_pay456, k0_pay457, k0_pay458, k0_pay459, k0_pay460, k0_pay461, k0_pay462, k0_pay463, k0_pay464,
      k0_pay465, k0_pay466, k0_pay467, k0_pay468, dot_S160x128_S128x128_S160x128_1_0_0_1_n_n, dot_S160x128_S128x128_S160x128_1_1_0_0_n_n,
      dot_S160x128_S160x128_S128x128_0_0_1_1_n_n, dot_S160x128_S160x256_S128x256_0_0_1_1_n_n, dot_S160x256_S256x256_S160x256_1_0_0_1_n_n,
      dot_S160x256_S256x256_S160x256_1_1_0_0_n_n, dot_S160x384_S160x256_S384x256_0_0_1_1_n_n, dot_S160x512_S256x512_S160x256_1_1_0_0_n_n,
      dot_S160x512_S512x256_S160x256_1_0_0_1_n_n, dot_S320x128_S128x128_S320x128_1_0_0_1_n_n, dot_S320x128_S320x128_S128x128_0_0_1_1_n_n,
      dot_S320x128_S320x256_S128x256_0_0_1_1_n_n, dot_S320x256_S256x256_S320x256_1_0_0_1_n_n, dot_S320x256_S320x256_S256x256_0_0_1_1_n_n,
      dot_S320x512_S512x256_S320x256_1_0_0_1_n_n]
    refine piece3 _ _ ?_
    intro i hi j hj
    simp only [Nat.zero_add, zero_add, ← Nat.add_assoc, Nat.reduceAdd, slots_zero, slots_one, posWeighted, chunkWeighted, readAt_first,
      Ideal.scalar_mulf_def, Ideal.scalar_truncf_def, off1, off2, off3, off4, off5, off6, Nat.reduceLT, Matrix.cons_val]
    first
      | rw [show j / 128 = 0 by omega] | rw [show (128 + j) / 128 = 1 by omega] | rw [show (256 + j) / 128 = 2 by omega]
      | rw [show (384 + j) / 128 = 3 by omega] | rw [show (512 + j) / 128 = 4 by omega]

instance : HoldsAll (A := 160) (kernelRun0_A.sl.HS2_10 c i arg2 h2 arg5 h5 arg9 h9 x0 x3 x7)
    (slots (posWeighted x3 x7 x0 (i 0).val (i 1).val 0) (posWeighted x3 x7 x0 (i 0).val (i 1).val 1)) :=
  (weightedQ c i arg2 h2 arg5 h5 arg9 h9 x0 x3 x7).1

instance : HoldsAll (A := 160) (kernelRun0_A.sl.HS2_15 c i arg2 h2 arg5 h5 arg9 h9 x0 x3 x7)
    (slots (posWeighted x3 x7 x0 (i 0).val (i 1).val 2) (posWeighted x3 x7 x0 (i 0).val (i 1).val 1)) :=
  (weightedQ c i arg2 h2 arg5 h5 arg9 h9 x0 x3 x7).2.1

instance : HoldsAll (A := 160) (kernelRun0_A.sl.HS2_20 c i arg2 h2 arg5 h5 arg9 h9 x0 x3 x7)
    (slots (posWeighted x3 x7 x0 (i 0).val (i 1).val 2) (posWeighted x3 x7 x0 (i 0).val (i 1).val 3)) :=
  (weightedQ c i arg2 h2 arg5 h5 arg9 h9 x0 x3 x7).2.2

/-- The keys, weighted by chunk: after heads 0 and 1, after head 2 replaced head 0, and after head 3 replaced head 1. -/
theorem weightedK :
    HoldsAll (A := 160) (kernelRun0_A.sl.HS3_10 c i arg3 h3 arg4 h4 arg6 h6 x1 x2 x4)
        (slots (chunkWeighted x4 x2 x1 (i 0).val (i 1).val 0) (chunkWeighted x4 x2 x1 (i 0).val (i 1).val 1))
    ∧ HoldsAll (A := 160) (kernelRun0_A.sl.HS3_15 c i arg3 h3 arg4 h4 arg6 h6 x1 x2 x4)
        (slots (chunkWeighted x4 x2 x1 (i 0).val (i 1).val 2) (chunkWeighted x4 x2 x1 (i 0).val (i 1).val 1))
    ∧ HoldsAll (A := 160) (kernelRun0_A.sl.HS3_20 c i arg3 h3 arg4 h4 arg6 h6 x1 x2 x4)
        (slots (chunkWeighted x4 x2 x1 (i 0).val (i 1).val 2) (chunkWeighted x4 x2 x1 (i 0).val (i 1).val 3)) := by
  refine ⟨?_, ?_, ?_⟩
  all_goals refine holdsAll_of_take 10 ?_ ?_
  all_goals first
    | (sl_unfold_run_values
       sl_kernel_rfl)
    | skip
  all_goals
    sl_unfold_run_values
    simp only [List.take_succ_cons, List.take_zero, View.PiecesOf]
    repeat' apply And.intro
  all_goals first | exact trivial | skip
  all_goals
    dsimp only
    sl_unfold_run_values
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211, k0_pay212,
      k0_pay213, k0_pay214, k0_pay215, k0_pay216, k0_pay217, k0_pay218, k0_pay219, k0_pay220, k0_pay221, k0_pay222, k0_pay223, k0_pay224,
      k0_pay225, k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281, k0_pay282, k0_pay283, k0_pay284,
      k0_pay285, k0_pay286, k0_pay287, k0_pay288, k0_pay289, k0_pay290, k0_pay291, k0_pay292, k0_pay293, k0_pay294, k0_pay295, k0_pay296,
      k0_pay297, k0_pay298, k0_pay299, k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353, k0_pay354, k0_pay355, k0_pay356,
      k0_pay357, k0_pay358, k0_pay359, k0_pay360, k0_pay361, k0_pay362, k0_pay363, k0_pay364, k0_pay365, k0_pay366, k0_pay367, k0_pay368,
      k0_pay369, k0_pay370, k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390, k0_pay391, k0_pay392,
      k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416,
      k0_pay417, k0_pay418, k0_pay419, k0_pay420, k0_pay421, k0_pay422, k0_pay423, k0_pay424, k0_pay425, k0_pay426, k0_pay427, k0_pay428,
      k0_pay429, k0_pay430, k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450, k0_pay451, k0_pay452,
      k0_pay453, k0_pay454, k0_pay455, k0_pay456, k0_pay457, k0_pay458, k0_pay459, k0_pay460, k0_pay461, k0_pay462, k0_pay463, k0_pay464,
      k0_pay465, k0_pay466, k0_pay467, k0_pay468, dot_S160x128_S128x128_S160x128_1_0_0_1_n_n, dot_S160x128_S128x128_S160x128_1_1_0_0_n_n,
      dot_S160x128_S160x128_S128x128_0_0_1_1_n_n, dot_S160x128_S160x256_S128x256_0_0_1_1_n_n, dot_S160x256_S256x256_S160x256_1_0_0_1_n_n,
      dot_S160x256_S256x256_S160x256_1_1_0_0_n_n, dot_S160x384_S160x256_S384x256_0_0_1_1_n_n, dot_S160x512_S256x512_S160x256_1_1_0_0_n_n,
      dot_S160x512_S512x256_S160x256_1_0_0_1_n_n, dot_S320x128_S128x128_S320x128_1_0_0_1_n_n, dot_S320x128_S320x128_S128x128_0_0_1_1_n_n,
      dot_S320x128_S320x256_S128x256_0_0_1_1_n_n, dot_S320x256_S256x256_S320x256_1_0_0_1_n_n, dot_S320x256_S320x256_S256x256_0_0_1_1_n_n,
      dot_S320x512_S512x256_S320x256_1_0_0_1_n_n]
    refine piece3 _ _ ?_
    intro i hi j hj
    simp only [Nat.zero_add, zero_add, ← Nat.add_assoc, Nat.reduceAdd, slots_zero, slots_one, posWeighted, chunkWeighted, readAt_first,
      Ideal.scalar_mulf_def, Ideal.scalar_truncf_def, off1, off2, off3, off4, off5, off6, Nat.reduceLT, Matrix.cons_val]
    first
      | rw [show j / 128 = 0 by omega] | rw [show (128 + j) / 128 = 1 by omega] | rw [show (256 + j) / 128 = 2 by omega]
      | rw [show (384 + j) / 128 = 3 by omega] | rw [show (512 + j) / 128 = 4 by omega]

instance : HoldsAll (A := 160) (kernelRun0_A.sl.HS3_10 c i arg3 h3 arg4 h4 arg6 h6 x1 x2 x4)
    (slots (chunkWeighted x4 x2 x1 (i 0).val (i 1).val 0) (chunkWeighted x4 x2 x1 (i 0).val (i 1).val 1)) :=
  (weightedK c i arg3 h3 arg4 h4 arg6 h6 x1 x2 x4).1

instance : HoldsAll (A := 160) (kernelRun0_A.sl.HS3_15 c i arg3 h3 arg4 h4 arg6 h6 x1 x2 x4)
    (slots (chunkWeighted x4 x2 x1 (i 0).val (i 1).val 2) (chunkWeighted x4 x2 x1 (i 0).val (i 1).val 1)) :=
  (weightedK c i arg3 h3 arg4 h4 arg6 h6 x1 x2 x4).2.1

instance : HoldsAll (A := 160) (kernelRun0_A.sl.HS3_20 c i arg3 h3 arg4 h4 arg6 h6 x1 x2 x4)
    (slots (chunkWeighted x4 x2 x1 (i 0).val (i 1).val 2) (chunkWeighted x4 x2 x1 (i 0).val (i 1).val 3)) :=
  (weightedK c i arg3 h3 arg4 h4 arg6 h6 x1 x2 x4).2.2

/-- The output gradients, weighted by position: after heads 0 and 1, after head 2 replaced head 0, and after head 3 replaced head 1. -/
theorem weightedD :
    HoldsAll (A := 320) (kernelRun0_A.sl.HS4_10 c i arg2 h2 arg8 h8 arg9 h9 x0 x6 x7)
        (slots (posWeighted x6 x7 x0 (i 0).val (i 1).val 0) (posWeighted x6 x7 x0 (i 0).val (i 1).val 1))
    ∧ HoldsAll (A := 320) (kernelRun0_A.sl.HS4_15 c i arg2 h2 arg8 h8 arg9 h9 x0 x6 x7)
        (slots (posWeighted x6 x7 x0 (i 0).val (i 1).val 2) (posWeighted x6 x7 x0 (i 0).val (i 1).val 1))
    ∧ HoldsAll (A := 320) (kernelRun0_A.sl.HS4_20 c i arg2 h2 arg8 h8 arg9 h9 x0 x6 x7)
        (slots (posWeighted x6 x7 x0 (i 0).val (i 1).val 2) (posWeighted x6 x7 x0 (i 0).val (i 1).val 3)) := by
  refine ⟨?_, ?_, ?_⟩
  all_goals refine holdsAll_of_take 10 ?_ ?_
  all_goals first
    | (sl_unfold_run_values
       sl_kernel_rfl)
    | skip
  all_goals
    sl_unfold_run_values
    simp only [List.take_succ_cons, List.take_zero, View.PiecesOf]
    repeat' apply And.intro
  all_goals first | exact trivial | skip
  all_goals
    dsimp only
    sl_unfold_run_values
    dsimp only [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164,
      k0_pay165, k0_pay166, k0_pay167, k0_pay168, k0_pay169, k0_pay170, k0_pay171, k0_pay172, k0_pay173, k0_pay174, k0_pay175, k0_pay176,
      k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211, k0_pay212,
      k0_pay213, k0_pay214, k0_pay215, k0_pay216, k0_pay217, k0_pay218, k0_pay219, k0_pay220, k0_pay221, k0_pay222, k0_pay223, k0_pay224,
      k0_pay225, k0_pay226, k0_pay227, k0_pay228, k0_pay229, k0_pay230, k0_pay231, k0_pay232, k0_pay233, k0_pay234, k0_pay235, k0_pay236,
      k0_pay237, k0_pay238, k0_pay239, k0_pay240, k0_pay241, k0_pay242, k0_pay243, k0_pay244, k0_pay245, k0_pay246, k0_pay247, k0_pay248,
      k0_pay249, k0_pay250, k0_pay251, k0_pay252, k0_pay253, k0_pay254, k0_pay255, k0_pay256, k0_pay257, k0_pay258, k0_pay259, k0_pay260,
      k0_pay261, k0_pay262, k0_pay263, k0_pay264, k0_pay265, k0_pay266, k0_pay267, k0_pay268, k0_pay269, k0_pay270, k0_pay271, k0_pay272,
      k0_pay273, k0_pay274, k0_pay275, k0_pay276, k0_pay277, k0_pay278, k0_pay279, k0_pay280, k0_pay281, k0_pay282, k0_pay283, k0_pay284,
      k0_pay285, k0_pay286, k0_pay287, k0_pay288, k0_pay289, k0_pay290, k0_pay291, k0_pay292, k0_pay293, k0_pay294, k0_pay295, k0_pay296,
      k0_pay297, k0_pay298, k0_pay299, k0_pay300, k0_pay301, k0_pay302, k0_pay303, k0_pay304, k0_pay305, k0_pay306, k0_pay307, k0_pay308,
      k0_pay309, k0_pay310, k0_pay311, k0_pay312, k0_pay313, k0_pay314, k0_pay315, k0_pay316, k0_pay317, k0_pay318, k0_pay319, k0_pay320,
      k0_pay321, k0_pay322, k0_pay323, k0_pay324, k0_pay325, k0_pay326, k0_pay327, k0_pay328, k0_pay329, k0_pay330, k0_pay331, k0_pay332,
      k0_pay333, k0_pay334, k0_pay335, k0_pay336, k0_pay337, k0_pay338, k0_pay339, k0_pay340, k0_pay341, k0_pay342, k0_pay343, k0_pay344,
      k0_pay345, k0_pay346, k0_pay347, k0_pay348, k0_pay349, k0_pay350, k0_pay351, k0_pay352, k0_pay353, k0_pay354, k0_pay355, k0_pay356,
      k0_pay357, k0_pay358, k0_pay359, k0_pay360, k0_pay361, k0_pay362, k0_pay363, k0_pay364, k0_pay365, k0_pay366, k0_pay367, k0_pay368,
      k0_pay369, k0_pay370, k0_pay371, k0_pay372, k0_pay373, k0_pay374, k0_pay375, k0_pay376, k0_pay377, k0_pay378, k0_pay379, k0_pay380,
      k0_pay381, k0_pay382, k0_pay383, k0_pay384, k0_pay385, k0_pay386, k0_pay387, k0_pay388, k0_pay389, k0_pay390, k0_pay391, k0_pay392,
      k0_pay393, k0_pay394, k0_pay395, k0_pay396, k0_pay397, k0_pay398, k0_pay399, k0_pay400, k0_pay401, k0_pay402, k0_pay403, k0_pay404,
      k0_pay405, k0_pay406, k0_pay407, k0_pay408, k0_pay409, k0_pay410, k0_pay411, k0_pay412, k0_pay413, k0_pay414, k0_pay415, k0_pay416,
      k0_pay417, k0_pay418, k0_pay419, k0_pay420, k0_pay421, k0_pay422, k0_pay423, k0_pay424, k0_pay425, k0_pay426, k0_pay427, k0_pay428,
      k0_pay429, k0_pay430, k0_pay431, k0_pay432, k0_pay433, k0_pay434, k0_pay435, k0_pay436, k0_pay437, k0_pay438, k0_pay439, k0_pay440,
      k0_pay441, k0_pay442, k0_pay443, k0_pay444, k0_pay445, k0_pay446, k0_pay447, k0_pay448, k0_pay449, k0_pay450, k0_pay451, k0_pay452,
      k0_pay453, k0_pay454, k0_pay455, k0_pay456, k0_pay457, k0_pay458, k0_pay459, k0_pay460, k0_pay461, k0_pay462, k0_pay463, k0_pay464,
      k0_pay465, k0_pay466, k0_pay467, k0_pay468, dot_S160x128_S128x128_S160x128_1_0_0_1_n_n, dot_S160x128_S128x128_S160x128_1_1_0_0_n_n,
      dot_S160x128_S160x128_S128x128_0_0_1_1_n_n, dot_S160x128_S160x256_S128x256_0_0_1_1_n_n, dot_S160x256_S256x256_S160x256_1_0_0_1_n_n,
      dot_S160x256_S256x256_S160x256_1_1_0_0_n_n, dot_S160x384_S160x256_S384x256_0_0_1_1_n_n, dot_S160x512_S256x512_S160x256_1_1_0_0_n_n,
      dot_S160x512_S512x256_S160x256_1_0_0_1_n_n, dot_S320x128_S128x128_S320x128_1_0_0_1_n_n, dot_S320x128_S320x128_S128x128_0_0_1_1_n_n,
      dot_S320x128_S320x256_S128x256_0_0_1_1_n_n, dot_S320x256_S256x256_S320x256_1_0_0_1_n_n, dot_S320x256_S320x256_S256x256_0_0_1_1_n_n,
      dot_S320x512_S512x256_S320x256_1_0_0_1_n_n]
    refine piece3 _ _ ?_
    intro i hi j hj
    simp only [Nat.zero_add, zero_add, ← Nat.add_assoc, Nat.reduceAdd, slots_zero, slots_one, posWeighted, chunkWeighted, readAt_first,
      Ideal.scalar_mulf_def, Ideal.scalar_truncf_def, off1, off2, off3, off4, off5, off6, Nat.reduceLT, Matrix.cons_val]
    first
      | rw [show j / 128 = 0 by omega] | rw [show (128 + j) / 128 = 1 by omega] | rw [show (256 + j) / 128 = 2 by omega]
      | rw [show (384 + j) / 128 = 3 by omega] | rw [show (512 + j) / 128 = 4 by omega]

instance : HoldsAll (A := 320) (kernelRun0_A.sl.HS4_10 c i arg2 h2 arg8 h8 arg9 h9 x0 x6 x7)
    (slots (posWeighted x6 x7 x0 (i 0).val (i 1).val 0) (posWeighted x6 x7 x0 (i 0).val (i 1).val 1)) :=
  (weightedD c i arg2 h2 arg8 h8 arg9 h9 x0 x6 x7).1

instance : HoldsAll (A := 320) (kernelRun0_A.sl.HS4_15 c i arg2 h2 arg8 h8 arg9 h9 x0 x6 x7)
    (slots (posWeighted x6 x7 x0 (i 0).val (i 1).val 2) (posWeighted x6 x7 x0 (i 0).val (i 1).val 1)) :=
  (weightedD c i arg2 h2 arg8 h8 arg9 h9 x0 x6 x7).2.1

instance : HoldsAll (A := 320) (kernelRun0_A.sl.HS4_20 c i arg2 h2 arg8 h8 arg9 h9 x0 x6 x7)
    (slots (posWeighted x6 x7 x0 (i 0).val (i 1).val 2) (posWeighted x6 x7 x0 (i 0).val (i 1).val 3)) :=
  (weightedD c i arg2 h2 arg8 h8 arg9 h9 x0 x6 x7).2.2

end Cert.KernelIdeal.Gen

end
-- ==== Proof.GradQ.lean ====
/-
  The kernel's first result at a grid point: each stored block is the block of the sum over all positions, since the positions a block leaves out are masked.
-/
module

public import proofs.«01_k».proof.Proof.ScoreA
public import proofs.«01_k».proof.Proof.ScoreP
public import proofs.«01_k».proof.Proof.Weights
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

variable (c : Dev nD) (i : grid0.Coords) (arg2 : Memref sig .tc .smem S5x3x20 .f32) (h2 : arg2.IsWhole) (arg3 : Memref sig .tc .smem S5x3x20 .f32)
  (h3 : arg3.IsWhole) (arg4 : Memref sig .tc .smem S5x3x20 .f32) (h4 : arg4.IsWhole) (arg5 : Memref sig .tc .vmem S1x4x160x640 .fp8e4m3) (h5 :
  arg5.IsWhole) (arg6 : Memref sig .tc .vmem S1x4x160x640 .fp8e4m3) (h6 : arg6.IsWhole) (arg7 : Memref sig .tc .vmem S1x4x320x640 .fp8e4m3) (h7 :
  arg7.IsWhole) (arg8 : Memref sig .tc .vmem S1x4x320x640 .fp8e5m2) (h8 : arg8.IsWhole) (arg9 : Memref sig .tc .vmem S1x20x640 .f32) (h9 :
  arg9.IsWhole) (arg10 : Memref sig .tc .vmem S1x4x160x640 .bf16) (h10 : arg10.IsWhole) (arg11 : Memref sig .tc .vmem S1x4x160x640 .bf16) (h11 :
  arg11.IsWhole) (arg12 : Memref sig .tc .vmem S1x4x320x640 .bf16) (h12 : arg12.IsWhole) (arg13 : Memref sig .tc .vmem S2x640x640 .bf16) (h13 :
  arg13.IsWhole) (arg14 : Memref sig .tc .vmem S2x640x640 .bf16) (h14 : arg14.IsWhole) (arg15 : Memref sig .tc .vmem S2x160x640 .bf16) (h15 :
  arg15.IsWhole) (arg16 : Memref sig .tc .vmem S2x160x640 .bf16) (h16 : arg16.IsWhole) (arg17 : Memref sig .tc .vmem S2x320x640 .bf16) (h17 :
  arg17.IsWhole) (x0 x1 x2 : FVec Ideal S5x3x20 .f32) (x3 x4 : FVec Ideal S1x4x160x640 .fp8e4m3) (x5 : FVec Ideal S1x4x320x640 .fp8e4m3) (x6 : FVec
  Ideal S1x4x320x640 .fp8e5m2) (x7 : FVec Ideal S1x20x640 .f32)

theorem pieces_gradQ : View.PiecesOf (Val := Elt Ideal) (s := S1x4x160x640) (e := .bf16)
    (fun y => (gradQ x4 x5 x6 x7 x1 x2 (i 0).val (i 1).val (y 1).val (y 2).val (y 3).val : Ideal .bf16))
    (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).1 := by
  unfold kernelRun0_A
  dsimp only
  sl_unfold_run_values
  simp only [View.PiecesOf]
  repeat' apply And.intro
  all_goals first | exact trivial | skip
  all_goals
    try dsimp only
    sl_unfold_run_values
    dsimp only [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437, k0_pay438, k0_pay439, k0_pay440, k0_pay441, k0_pay442, k0_pay443, k0_pay444, k0_pay445, k0_pay446, k0_pay447,
      k0_pay448, k0_pay449, k0_pay450, k0_pay451, k0_pay452, k0_pay453, k0_pay454, k0_pay455, k0_pay456, k0_pay457, k0_pay458, k0_pay459,
      k0_pay460, k0_pay461, k0_pay462, k0_pay463, k0_pay464, k0_pay465, k0_pay466, k0_pay467, k0_pay468,
      dot_S160x128_S128x128_S160x128_1_0_0_1_n_n, dot_S160x128_S128x128_S160x128_1_1_0_0_n_n, dot_S160x128_S160x128_S128x128_0_0_1_1_n_n,
      dot_S160x128_S160x256_S128x256_0_0_1_1_n_n, dot_S160x256_S256x256_S160x256_1_0_0_1_n_n, dot_S160x256_S256x256_S160x256_1_1_0_0_n_n,
      dot_S160x384_S160x256_S384x256_0_0_1_1_n_n, dot_S160x512_S256x512_S160x256_1_1_0_0_n_n, dot_S160x512_S512x256_S160x256_1_0_0_1_n_n,
      dot_S320x128_S128x128_S320x128_1_0_0_1_n_n, dot_S320x128_S320x128_S128x128_0_0_1_1_n_n, dot_S320x128_S320x256_S128x256_0_0_1_1_n_n,
      dot_S320x256_S256x256_S320x256_1_0_0_1_n_n, dot_S320x256_S320x256_S256x256_0_0_1_1_n_n, dot_S320x512_S512x256_S320x256_1_0_0_1_n_n]
    refine piece4 _ (gradQ x4 x5 x6 x7 x1 x2 (i 0).val (i 1).val) ?_
    intro i hi j hj
    simp only [Nat.zero_add, zero_add, ← Nat.add_assoc, Nat.reduceAdd, slots_zero, slots_one, gradQ, factor, readAt_first, off1, off2, off3, off4,
      off5, off6, Nat.reduceLT, Matrix.cons_val]
    refine congrArg (· * _) ?_
    first
      | exact two_windows 0 _ _ (by omega) (fun k _ => by simp only [Nat.zero_add, ← Nat.add_assoc, Nat.reduceAdd]) (fun k _ => by simp only [Nat.zero_add, ← Nat.add_assoc, Nat.reduceAdd])
          (fun s _ hs => by rw [score, if_neg (by omega), mul_zero])
      | exact one_window 0 _ (by omega) (fun k _ => by simp only [Nat.zero_add, ← Nat.add_assoc, Nat.reduceAdd]) (fun s _ hs => by rw [score, if_neg (by omega), mul_zero])

theorem out_gradQ (y : S1x4x160x640.Idx) :
    (out0_A_8 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y : EReal)
      = gradQ x4 x5 x6 x7 x1 x2 (i 0).val (i 1).val (y 1).val (y 2).val (y 3).val := by
  unfold out0_A_8
  rw [View.read_writes_junk_eq_canon]
  have h := (pieces_gradQ c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).mem
  exact View.canon_apply_of_pieces (fun y : S1x4x160x640.Idx => (gradQ x4 x5 x6 x7 x1 x2 (i 0).val (i 1).val (y 1).val (y 2).val (y 3).val : Ideal .bf16)) _ h y
    (cover0_A_8 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y)

end Cert.KernelIdeal.Gen

end
-- ==== Proof.GradK.lean ====
/-
  The kernel's second result at a grid point.
-/
module

public import proofs.«01_k».proof.Proof.ScoreA
public import proofs.«01_k».proof.Proof.ScoreP
public import proofs.«01_k».proof.Proof.Weights
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

variable (c : Dev nD) (i : grid0.Coords) (arg2 : Memref sig .tc .smem S5x3x20 .f32) (h2 : arg2.IsWhole) (arg3 : Memref sig .tc .smem S5x3x20 .f32)
  (h3 : arg3.IsWhole) (arg4 : Memref sig .tc .smem S5x3x20 .f32) (h4 : arg4.IsWhole) (arg5 : Memref sig .tc .vmem S1x4x160x640 .fp8e4m3) (h5 :
  arg5.IsWhole) (arg6 : Memref sig .tc .vmem S1x4x160x640 .fp8e4m3) (h6 : arg6.IsWhole) (arg7 : Memref sig .tc .vmem S1x4x320x640 .fp8e4m3) (h7 :
  arg7.IsWhole) (arg8 : Memref sig .tc .vmem S1x4x320x640 .fp8e5m2) (h8 : arg8.IsWhole) (arg9 : Memref sig .tc .vmem S1x20x640 .f32) (h9 :
  arg9.IsWhole) (arg10 : Memref sig .tc .vmem S1x4x160x640 .bf16) (h10 : arg10.IsWhole) (arg11 : Memref sig .tc .vmem S1x4x160x640 .bf16) (h11 :
  arg11.IsWhole) (arg12 : Memref sig .tc .vmem S1x4x320x640 .bf16) (h12 : arg12.IsWhole) (arg13 : Memref sig .tc .vmem S2x640x640 .bf16) (h13 :
  arg13.IsWhole) (arg14 : Memref sig .tc .vmem S2x640x640 .bf16) (h14 : arg14.IsWhole) (arg15 : Memref sig .tc .vmem S2x160x640 .bf16) (h15 :
  arg15.IsWhole) (arg16 : Memref sig .tc .vmem S2x160x640 .bf16) (h16 : arg16.IsWhole) (arg17 : Memref sig .tc .vmem S2x320x640 .bf16) (h17 :
  arg17.IsWhole) (x0 x1 x2 : FVec Ideal S5x3x20 .f32) (x3 x4 : FVec Ideal S1x4x160x640 .fp8e4m3) (x5 : FVec Ideal S1x4x320x640 .fp8e4m3) (x6 : FVec
  Ideal S1x4x320x640 .fp8e5m2) (x7 : FVec Ideal S1x20x640 .f32)

theorem pieces_gradK : View.PiecesOf (Val := Elt Ideal) (s := S1x4x160x640) (e := .bf16)
    (fun y => (gradK x3 x5 x6 x7 x0 x2 (i 0).val (i 1).val (y 1).val (y 2).val (y 3).val : Ideal .bf16))
    (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).2.1 := by
  unfold kernelRun0_A
  dsimp only
  sl_unfold_run_values
  simp only [View.PiecesOf]
  repeat' apply And.intro
  all_goals first | exact trivial | skip
  all_goals
    try dsimp only
    sl_unfold_run_values
    dsimp only [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437, k0_pay438, k0_pay439, k0_pay440, k0_pay441, k0_pay442, k0_pay443, k0_pay444, k0_pay445, k0_pay446, k0_pay447,
      k0_pay448, k0_pay449, k0_pay450, k0_pay451, k0_pay452, k0_pay453, k0_pay454, k0_pay455, k0_pay456, k0_pay457, k0_pay458, k0_pay459,
      k0_pay460, k0_pay461, k0_pay462, k0_pay463, k0_pay464, k0_pay465, k0_pay466, k0_pay467, k0_pay468,
      dot_S160x128_S128x128_S160x128_1_0_0_1_n_n, dot_S160x128_S128x128_S160x128_1_1_0_0_n_n, dot_S160x128_S160x128_S128x128_0_0_1_1_n_n,
      dot_S160x128_S160x256_S128x256_0_0_1_1_n_n, dot_S160x256_S256x256_S160x256_1_0_0_1_n_n, dot_S160x256_S256x256_S160x256_1_1_0_0_n_n,
      dot_S160x384_S160x256_S384x256_0_0_1_1_n_n, dot_S160x512_S256x512_S160x256_1_1_0_0_n_n, dot_S160x512_S512x256_S160x256_1_0_0_1_n_n,
      dot_S320x128_S128x128_S320x128_1_0_0_1_n_n, dot_S320x128_S320x128_S128x128_0_0_1_1_n_n, dot_S320x128_S320x256_S128x256_0_0_1_1_n_n,
      dot_S320x256_S256x256_S320x256_1_0_0_1_n_n, dot_S320x256_S320x256_S256x256_0_0_1_1_n_n, dot_S320x512_S512x256_S320x256_1_0_0_1_n_n]
    refine piece4 _ (gradK x3 x5 x6 x7 x0 x2 (i 0).val (i 1).val) ?_
    intro i hi j hj
    simp only [Nat.zero_add, zero_add, ← Nat.add_assoc, Nat.reduceAdd, slots_zero, slots_one, gradK, factor, readAt_first, off1, off2, off3, off4,
      off5, off6, Nat.reduceLT, Matrix.cons_val]
    first
      | rw [show j / 128 = 0 by omega] | rw [show (128 + j) / 128 = 1 by omega] | rw [show (256 + j) / 128 = 2 by omega]
      | rw [show (384 + j) / 128 = 3 by omega] | rw [show (512 + j) / 128 = 4 by omega]
    refine congrArg (· * _) ?_
    first
      | exact one_window 128 _ (by omega) (fun k _ => by simp only [Nat.zero_add, ← Nat.add_assoc, Nat.reduceAdd]) (fun s _ hs => by rw [score, if_neg (by omega), mul_zero])
      | exact one_window 384 _ (by omega) (fun k _ => by simp only [Nat.zero_add, ← Nat.add_assoc, Nat.reduceAdd]) (fun s _ hs => by rw [score, if_neg (by omega), mul_zero])
      | exact one_window 512 _ (by omega) (fun k _ => by simp only [Nat.zero_add, ← Nat.add_assoc, Nat.reduceAdd]) (fun s _ hs => by rw [score, if_neg (by omega), mul_zero])
      | exact (add_comm _ _).trans (two_windows 0 _ _ (by omega) (fun k _ => by simp only [Nat.zero_add, ← Nat.add_assoc, Nat.reduceAdd])
          (fun k _ => by simp only [Nat.zero_add, ← Nat.add_assoc, Nat.reduceAdd]) (fun s _ hs => by rw [score, if_neg (by omega), mul_zero]))
      | exact (add_comm _ _).trans (two_windows 256 _ _ (by omega) (fun k _ => by simp only [Nat.zero_add, ← Nat.add_assoc, Nat.reduceAdd])
          (fun k _ => by simp only [Nat.zero_add, ← Nat.add_assoc, Nat.reduceAdd]) (fun s _ hs => by rw [score, if_neg (by omega), mul_zero]))

theorem out_gradK (y : S1x4x160x640.Idx) :
    (out0_A_9 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y : EReal)
      = gradK x3 x5 x6 x7 x0 x2 (i 0).val (i 1).val (y 1).val (y 2).val (y 3).val := by
  unfold out0_A_9
  rw [View.read_writes_junk_eq_canon]
  have h := (pieces_gradK c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).mem
  exact View.canon_apply_of_pieces (fun y : S1x4x160x640.Idx => (gradK x3 x5 x6 x7 x0 x2 (i 0).val (i 1).val (y 1).val (y 2).val (y 3).val : Ideal .bf16)) _ h y
    (cover0_A_9 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y)

end Cert.KernelIdeal.Gen

end
-- ==== Proof.GradV.lean ====
/-
  The kernel's third result at a grid point.
-/
module

public import proofs.«01_k».proof.Proof.ScoreA
public import proofs.«01_k».proof.Proof.ScoreP
public import proofs.«01_k».proof.Proof.Weights
public import proofs.«01_k».proof.Proof.Gen.KernelIdeal.Frame
public import Idealize.ShloMosaic.Lib.Tactic.RunNames

@[expose] public section

set_option maxRecDepth 16384

noncomputable section

namespace Cert.KernelIdeal.Gen

open Cert.KernelIdeal Cert.Value Idealize.ShloMosaic Idealize.ShloMosaic.TcCoe Idealize.SL.Sem

variable (c : Dev nD) (i : grid0.Coords) (arg2 : Memref sig .tc .smem S5x3x20 .f32) (h2 : arg2.IsWhole) (arg3 : Memref sig .tc .smem S5x3x20 .f32)
  (h3 : arg3.IsWhole) (arg4 : Memref sig .tc .smem S5x3x20 .f32) (h4 : arg4.IsWhole) (arg5 : Memref sig .tc .vmem S1x4x160x640 .fp8e4m3) (h5 :
  arg5.IsWhole) (arg6 : Memref sig .tc .vmem S1x4x160x640 .fp8e4m3) (h6 : arg6.IsWhole) (arg7 : Memref sig .tc .vmem S1x4x320x640 .fp8e4m3) (h7 :
  arg7.IsWhole) (arg8 : Memref sig .tc .vmem S1x4x320x640 .fp8e5m2) (h8 : arg8.IsWhole) (arg9 : Memref sig .tc .vmem S1x20x640 .f32) (h9 :
  arg9.IsWhole) (arg10 : Memref sig .tc .vmem S1x4x160x640 .bf16) (h10 : arg10.IsWhole) (arg11 : Memref sig .tc .vmem S1x4x160x640 .bf16) (h11 :
  arg11.IsWhole) (arg12 : Memref sig .tc .vmem S1x4x320x640 .bf16) (h12 : arg12.IsWhole) (arg13 : Memref sig .tc .vmem S2x640x640 .bf16) (h13 :
  arg13.IsWhole) (arg14 : Memref sig .tc .vmem S2x640x640 .bf16) (h14 : arg14.IsWhole) (arg15 : Memref sig .tc .vmem S2x160x640 .bf16) (h15 :
  arg15.IsWhole) (arg16 : Memref sig .tc .vmem S2x160x640 .bf16) (h16 : arg16.IsWhole) (arg17 : Memref sig .tc .vmem S2x320x640 .bf16) (h17 :
  arg17.IsWhole) (x0 x1 x2 : FVec Ideal S5x3x20 .f32) (x3 x4 : FVec Ideal S1x4x160x640 .fp8e4m3) (x5 : FVec Ideal S1x4x320x640 .fp8e4m3) (x6 : FVec
  Ideal S1x4x320x640 .fp8e5m2) (x7 : FVec Ideal S1x20x640 .f32)

theorem pieces_gradV : View.PiecesOf (Val := Elt Ideal) (s := S1x4x320x640) (e := .bf16)
    (fun y => (gradV x3 x4 x6 x7 x0 x1 (i 0).val (i 1).val (y 1).val (y 2).val (y 3).val : Ideal .bf16))
    (kernelRun0_A (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).2.2.1 := by
  unfold kernelRun0_A
  dsimp only
  sl_unfold_run_values
  simp only [View.PiecesOf]
  repeat' apply And.intro
  all_goals first | exact trivial | skip
  all_goals
    try dsimp only
    sl_unfold_run_values
    dsimp only [k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85,
      k0_pay86, k0_pay87, k0_pay88, k0_pay89, k0_pay90, k0_pay91, k0_pay92, k0_pay93, k0_pay94, k0_pay95, k0_pay96, k0_pay97, k0_pay98, k0_pay99,
      k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay193, k0_pay194, k0_pay195,
      k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219,
      k0_pay220, k0_pay221, k0_pay222, k0_pay223, k0_pay224, k0_pay225, k0_pay226, k0_pay227, k0_pay228, k0_pay229, k0_pay230, k0_pay231,
      k0_pay232, k0_pay233, k0_pay234, k0_pay235, k0_pay236, k0_pay237, k0_pay238, k0_pay239, k0_pay240, k0_pay241, k0_pay242, k0_pay243,
      k0_pay244, k0_pay245, k0_pay246, k0_pay247, k0_pay248, k0_pay249, k0_pay250, k0_pay251, k0_pay252, k0_pay253, k0_pay254, k0_pay255,
      k0_pay256, k0_pay257, k0_pay258, k0_pay259, k0_pay260, k0_pay261, k0_pay262, k0_pay263, k0_pay264, k0_pay265, k0_pay266, k0_pay267,
      k0_pay268, k0_pay269, k0_pay270, k0_pay271, k0_pay272, k0_pay273, k0_pay274, k0_pay275, k0_pay276, k0_pay277, k0_pay278, k0_pay279,
      k0_pay280, k0_pay281, k0_pay282, k0_pay283, k0_pay284, k0_pay285, k0_pay286, k0_pay287, k0_pay288, k0_pay289, k0_pay290, k0_pay291,
      k0_pay292, k0_pay293, k0_pay294, k0_pay295, k0_pay296, k0_pay297, k0_pay298, k0_pay299, k0_pay300, k0_pay301, k0_pay302, k0_pay303,
      k0_pay304, k0_pay305, k0_pay306, k0_pay307, k0_pay308, k0_pay309, k0_pay310, k0_pay311, k0_pay312, k0_pay313, k0_pay314, k0_pay315,
      k0_pay316, k0_pay317, k0_pay318, k0_pay319, k0_pay320, k0_pay321, k0_pay322, k0_pay323, k0_pay324, k0_pay325, k0_pay326, k0_pay327,
      k0_pay328, k0_pay329, k0_pay330, k0_pay331, k0_pay332, k0_pay333, k0_pay334, k0_pay335, k0_pay336, k0_pay337, k0_pay338, k0_pay339,
      k0_pay340, k0_pay341, k0_pay342, k0_pay343, k0_pay344, k0_pay345, k0_pay346, k0_pay347, k0_pay348, k0_pay349, k0_pay350, k0_pay351,
      k0_pay352, k0_pay353, k0_pay354, k0_pay355, k0_pay356, k0_pay357, k0_pay358, k0_pay359, k0_pay360, k0_pay361, k0_pay362, k0_pay363,
      k0_pay364, k0_pay365, k0_pay366, k0_pay367, k0_pay368, k0_pay369, k0_pay370, k0_pay371, k0_pay372, k0_pay373, k0_pay374, k0_pay375,
      k0_pay376, k0_pay377, k0_pay378, k0_pay379, k0_pay380, k0_pay381, k0_pay382, k0_pay383, k0_pay384, k0_pay385, k0_pay386, k0_pay387,
      k0_pay388, k0_pay389, k0_pay390, k0_pay391, k0_pay392, k0_pay393, k0_pay394, k0_pay395, k0_pay396, k0_pay397, k0_pay398, k0_pay399,
      k0_pay400, k0_pay401, k0_pay402, k0_pay403, k0_pay404, k0_pay405, k0_pay406, k0_pay407, k0_pay408, k0_pay409, k0_pay410, k0_pay411,
      k0_pay412, k0_pay413, k0_pay414, k0_pay415, k0_pay416, k0_pay417, k0_pay418, k0_pay419, k0_pay420, k0_pay421, k0_pay422, k0_pay423,
      k0_pay424, k0_pay425, k0_pay426, k0_pay427, k0_pay428, k0_pay429, k0_pay430, k0_pay431, k0_pay432, k0_pay433, k0_pay434, k0_pay435,
      k0_pay436, k0_pay437, k0_pay438, k0_pay439, k0_pay440, k0_pay441, k0_pay442, k0_pay443, k0_pay444, k0_pay445, k0_pay446, k0_pay447,
      k0_pay448, k0_pay449, k0_pay450, k0_pay451, k0_pay452, k0_pay453, k0_pay454, k0_pay455, k0_pay456, k0_pay457, k0_pay458, k0_pay459,
      k0_pay460, k0_pay461, k0_pay462, k0_pay463, k0_pay464, k0_pay465, k0_pay466, k0_pay467, k0_pay468,
      dot_S160x128_S128x128_S160x128_1_0_0_1_n_n, dot_S160x128_S128x128_S160x128_1_1_0_0_n_n, dot_S160x128_S160x128_S128x128_0_0_1_1_n_n,
      dot_S160x128_S160x256_S128x256_0_0_1_1_n_n, dot_S160x256_S256x256_S160x256_1_0_0_1_n_n, dot_S160x256_S256x256_S160x256_1_1_0_0_n_n,
      dot_S160x384_S160x256_S384x256_0_0_1_1_n_n, dot_S160x512_S256x512_S160x256_1_1_0_0_n_n, dot_S160x512_S512x256_S160x256_1_0_0_1_n_n,
      dot_S320x128_S128x128_S320x128_1_0_0_1_n_n, dot_S320x128_S320x128_S128x128_0_0_1_1_n_n, dot_S320x128_S320x256_S128x256_0_0_1_1_n_n,
      dot_S320x256_S256x256_S320x256_1_0_0_1_n_n, dot_S320x256_S320x256_S256x256_0_0_1_1_n_n, dot_S320x512_S512x256_S320x256_1_0_0_1_n_n]
    refine piece4 _ (gradV x3 x4 x6 x7 x0 x1 (i 0).val (i 1).val) ?_
    intro i hi j hj
    simp only [Nat.zero_add, zero_add, ← Nat.add_assoc, Nat.reduceAdd, slots_zero, slots_one, gradV, factor, readAt_first, off1, off2, off3, off4,
      off5, off6, Nat.reduceLT, Matrix.cons_val]
    first
      | rw [show j / 128 = 0 by omega] | rw [show (128 + j) / 128 = 1 by omega] | rw [show (256 + j) / 128 = 2 by omega]
      | rw [show (384 + j) / 128 = 3 by omega] | rw [show (512 + j) / 128 = 4 by omega]
    refine congrArg (· * _) ?_
    first
      | exact one_window 128 _ (by omega) (fun k _ => by simp only [Nat.zero_add, ← Nat.add_assoc, Nat.reduceAdd]) (fun s _ hs => by rw [score, if_neg (by omega), mul_zero])
      | exact one_window 384 _ (by omega) (fun k _ => by simp only [Nat.zero_add, ← Nat.add_assoc, Nat.reduceAdd]) (fun s _ hs => by rw [score, if_neg (by omega), mul_zero])
      | exact one_window 512 _ (by omega) (fun k _ => by simp only [Nat.zero_add, ← Nat.add_assoc, Nat.reduceAdd]) (fun s _ hs => by rw [score, if_neg (by omega), mul_zero])
      | exact (add_comm _ _).trans (two_windows 0 _ _ (by omega) (fun k _ => by simp only [Nat.zero_add, ← Nat.add_assoc, Nat.reduceAdd])
          (fun k _ => by simp only [Nat.zero_add, ← Nat.add_assoc, Nat.reduceAdd]) (fun s _ hs => by rw [score, if_neg (by omega), mul_zero]))
      | exact (add_comm _ _).trans (two_windows 256 _ _ (by omega) (fun k _ => by simp only [Nat.zero_add, ← Nat.add_assoc, Nat.reduceAdd])
          (fun k _ => by simp only [Nat.zero_add, ← Nat.add_assoc, Nat.reduceAdd]) (fun s _ hs => by rw [score, if_neg (by omega), mul_zero]))

theorem out_gradV (y : S1x4x320x640.Idx) :
    (out0_A_10 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y : EReal)
      = gradV x3 x4 x6 x7 x0 x1 (i 0).val (i 1).val (y 1).val (y 2).val (y 3).val := by
  unfold out0_A_10
  rw [View.read_writes_junk_eq_canon]
  have h := (pieces_gradV c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7).mem
  exact View.canon_apply_of_pieces (fun y : S1x4x320x640.Idx => (gradV x3 x4 x6 x7 x0 x1 (i 0).val (i 1).val (y 1).val (y 2).val (y 3).val : Ideal .bf16)) _ h y
    (cover0_A_10 (F := Ideal) c i arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 y)

end Cert.KernelIdeal.Gen

end
-- ==== Proof.Whole.lean ====
/-
  The three gradients over whole arrays, and the step from one block to the array it is cut from. An input is a function of natural numbers here: batch, head,
  feature and position for the four large inputs; batch, head and position for the per-position scale of the cotangent; chunk, batch and head for the
  per-chunk scales.
-/
module

public import proofs.«01_k».proof.Proof.Spec
public import Idealize.ShloMosaic.Lib.Pipeline.Value

@[expose] public section

noncomputable section

namespace Cert.Value

open Idealize.ShloMosaic Idealize.ShloMosaic.ValueIdx
open scoped BigOperators

variable (Q K V D : ℕ → ℕ → ℕ → ℕ → EReal) (W qs ks vs : ℕ → ℕ → ℕ → EReal)

/-- The product of feature columns `t` of `X` and `s` of `Y` in one head, zero when `s` comes after `t`. -/
def wholeScore (E : ℕ) (X Y : ℕ → ℕ → ℕ → ℕ → EReal) (b h t s : ℕ) : EReal :=
  if s ≤ t then ∑ e ∈ Finset.range E, X b h e t * Y b h e s else 0

/-- The gradient of the queries. -/
def wholeQ (b h d t : ℕ) : EReal :=
  (∑ s ∈ Finset.range 640, K b h d s * (vs (s / 128) b h * ks (s / 128) b h) * wholeScore 320 D V b h t s) * (W b h t * factor)

/-- The gradient of the keys. -/
def wholeK (b h d s : ℕ) : EReal :=
  (∑ t ∈ Finset.range 640, Q b h d t * (W b h t * qs (t / 128) b h) * wholeScore 320 D V b h t s) * (vs (s / 128) b h * factor)

/-- The gradient of the values. -/
def wholeV (b h e s : ℕ) : EReal :=
  (∑ t ∈ Finset.range 640, D b h e t * (W b h t * qs (t / 128) b h) * wholeScore 160 Q K b h t s) * (ks (s / 128) b h * factor)

variable {Q K V D W qs ks vs} {φ ψ : FTy} {b g : ℕ}

/-- A block whose elements are four neighbouring heads of `F`, at natural numbers. -/
theorem num4_block {n E : ℕ} {X : FVec Ideal ⟨4, ![1, n, E, 640]⟩ φ} {F : ℕ → ℕ → ℕ → ℕ → EReal}
    (hX : ∀ y, (X y : EReal) = F b (4 * g + (y 1).val) (y 2).val (y 3).val) {h d t : ℕ} (hh : h < n) (hd : d < E) (ht : t < 640) :
    num4 X 0 h d t = F b (4 * g + h) d t := by
  rw [num4, dif_pos ⟨Nat.one_pos, hh, hd, ht⟩]
  exact hX _

/-- A block whose elements are all heads of one batch of `F`, at natural numbers. -/
theorem num3_block {n : ℕ} {X : FVec Ideal ⟨3, ![1, n, 640]⟩ φ} {F : ℕ → ℕ → ℕ → EReal}
    (hX : ∀ y, (X y : EReal) = F b (y 1).val (y 2).val) {h t : ℕ} (hh : h < n) (ht : t < 640) :
    num3 X 0 h t = F b h t := by
  rw [num3, dif_pos ⟨Nat.one_pos, hh, ht⟩]
  exact hX _

/-- An array of scales at natural numbers. -/
theorem num3_scales {p q r : ℕ} {X : FVec Ideal ⟨3, ![p, q, r]⟩ φ} {F : ℕ → ℕ → ℕ → EReal}
    (hX : ∀ y, (X y : EReal) = F (y 0).val (y 1).val (y 2).val) {n i h : ℕ} (hn : n < p) (hi : i < q) (hh : h < r) :
    num3 X n i h = F n i h := by
  rw [num3, dif_pos ⟨hn, hi, hh⟩]
  exact hX _

/-- The masked product in a block is that of the whole arrays. -/
theorem score_whole {n E : ℕ} {X : FVec Ideal ⟨4, ![1, n, E, 640]⟩ φ} {Y : FVec Ideal ⟨4, ![1, n, E, 640]⟩ ψ} {F G : ℕ → ℕ → ℕ → ℕ → EReal}
    (hX : ∀ y, (X y : EReal) = F b (4 * g + (y 1).val) (y 2).val (y 3).val) (hY : ∀ y, (Y y : EReal) = G b (4 * g + (y 1).val) (y 2).val (y 3).val)
    {h t s : ℕ} (hh : h < n) (ht : t < 640) (hs : s < 640) : score X Y h t s = wholeScore E F G b (4 * g + h) t s := by
  unfold score wholeScore
  split
  · refine Finset.sum_congr rfl fun e he => ?_
    rw [num4_block hX hh (Finset.mem_range.mp he) ht, num4_block hY hh (Finset.mem_range.mp he) hs]
  · rfl

section
variable {x3 x4 : FVec Ideal ⟨4, ![1, 4, 160, 640]⟩ .fp8e4m3} {x5 : FVec Ideal ⟨4, ![1, 4, 320, 640]⟩ .fp8e4m3}
  {x6 : FVec Ideal ⟨4, ![1, 4, 320, 640]⟩ .fp8e5m2} {x7 : FVec Ideal ⟨3, ![1, 20, 640]⟩ .f32} {x0 x1 x2 : FVec Ideal ⟨3, ![5, 3, 20]⟩ .f32}
  (h3 : ∀ y, (x3 y : EReal) = Q b (4 * g + (y 1).val) (y 2).val (y 3).val) (h4 : ∀ y, (x4 y : EReal) = K b (4 * g + (y 1).val) (y 2).val (y 3).val)
  (h5 : ∀ y, (x5 y : EReal) = V b (4 * g + (y 1).val) (y 2).val (y 3).val) (h6 : ∀ y, (x6 y : EReal) = D b (4 * g + (y 1).val) (y 2).val (y 3).val)
  (h7 : ∀ y, (x7 y : EReal) = W b (y 1).val (y 2).val) (h0 : ∀ y, (x0 y : EReal) = qs (y 0).val (y 1).val (y 2).val)
  (h1 : ∀ y, (x1 y : EReal) = ks (y 0).val (y 1).val (y 2).val) (h2 : ∀ y, (x2 y : EReal) = vs (y 0).val (y 1).val (y 2).val)
  (hb : b < 3) (hg : g < 5)
include h3 h4 h5 h6 h7 h0 h1 h2 hb hg

/-- The gradient of the queries in a block is that of the whole arrays. -/
theorem gradQ_whole {h d t : ℕ} (hh : h < 4) (hd : d < 160) (ht : t < 640) :
    gradQ x4 x5 x6 x7 x1 x2 b g h d t = wholeQ K V D W ks vs b (4 * g + h) d t := by
  unfold gradQ wholeQ
  rw [num3_block h7 (by omega) ht]
  refine congrArg (· * _) (Finset.sum_congr rfl fun s hs => ?_)
  have hs := Finset.mem_range.mp hs
  exact congrArg₂ (· * ·) (congrArg₂ (· * ·) (num4_block h4 hh hd hs)
    (congrArg₂ (· * ·) (num3_scales h2 (by omega) hb (by omega)) (num3_scales h1 (by omega) hb (by omega)))) (score_whole h6 h5 hh ht hs)

/-- The gradient of the keys in a block is that of the whole arrays. -/
theorem gradK_whole {h d s : ℕ} (hh : h < 4) (hd : d < 160) (hs : s < 640) :
    gradK x3 x5 x6 x7 x0 x2 b g h d s = wholeK Q V D W qs vs b (4 * g + h) d s := by
  unfold gradK wholeK
  rw [num3_scales h2 (by omega) hb (by omega)]
  refine congrArg (· * _) (Finset.sum_congr rfl fun t ht => ?_)
  have ht := Finset.mem_range.mp ht
  exact congrArg₂ (· * ·) (congrArg₂ (· * ·) (num4_block h3 hh hd ht)
    (congrArg₂ (· * ·) (num3_block h7 (by omega) ht) (num3_scales h0 (by omega) hb (by omega)))) (score_whole h6 h5 hh ht hs)

/-- The gradient of the values in a block is that of the whole arrays. -/
theorem gradV_whole {h e s : ℕ} (hh : h < 4) (he : e < 320) (hs : s < 640) :
    gradV x3 x4 x6 x7 x0 x1 b g h e s = wholeV Q K D W qs ks b (4 * g + h) e s := by
  unfold gradV wholeV
  rw [num3_scales h1 (by omega) hb (by omega)]
  refine congrArg (· * _) (Finset.sum_congr rfl fun t ht => ?_)
  have ht := Finset.mem_range.mp ht
  exact congrArg₂ (· * ·) (congrArg₂ (· * ·) (num4_block h6 hh he ht)
    (congrArg₂ (· * ·) (num3_block h7 (by omega) ht) (num3_scales h0 (by omega) hb (by omega)))) (score_whole h3 h4 hh ht hs)

end

/-! ## Inputs in the layout the host holds them in -/

/-- An array with axes batch, head, position, feature as a function of batch, head, feature, position. -/
def feat {n0 n1 n2 n3 : ℕ} (X : FVec Ideal ⟨4, ![n0, n1, n2, n3]⟩ φ) (b h e t : ℕ) : EReal := num4 X b h t e

/-- An array with axes batch, head, chunk as a function of chunk, batch, head. -/
def chunk {n0 n1 n2 : ℕ} (X : FVec Ideal ⟨3, ![n0, n1, n2]⟩ φ) (n b h : ℕ) : EReal := num3 X b h n

/-- The transpose that exchanges the last two axes, at an index. -/
theorem transposed4 {n0 n1 n2 n3 : ℕ} (X : FVec Ideal ⟨4, ![n0, n1, n2, n3]⟩ φ)
    (h : Shape.Transposes ⟨4, ![n0, n1, n2, n3]⟩ [0, 1, 3, 2] ⟨4, ![n0, n1, n3, n2]⟩) (z : (⟨4, ![n0, n1, n3, n2]⟩ : Shape).Idx) :
    (transpose ⟨4, ![n0, n1, n3, n2]⟩ [0, 1, 3, 2] X h z : EReal) = feat X (z 0).val (z 1).val (z 2).val (z 3).val := by
  refine (transpose_apply _ X h z (ix4 (z 0) (z 1) (z 3) (z 2)) ?_).trans (num4_val X _ _ _ _ _ rfl rfl rfl rfl).symm
  intro a
  fin_cases a <;> rfl

/-- The transpose that brings the last axis to the front, at an index. -/
theorem transposed3 {n0 n1 n2 : ℕ} (X : FVec Ideal ⟨3, ![n0, n1, n2]⟩ φ)
    (h : Shape.Transposes ⟨3, ![n0, n1, n2]⟩ [2, 0, 1] ⟨3, ![n2, n0, n1]⟩) (z : (⟨3, ![n2, n0, n1]⟩ : Shape).Idx) :
    (transpose ⟨3, ![n2, n0, n1]⟩ [2, 0, 1] X h z : EReal) = chunk X (z 0).val (z 1).val (z 2).val := by
  refine (transpose_apply _ X h z (ix3 (z 1) (z 2) (z 0)) ?_).trans (num3_val X _ _ _ _ rfl rfl rfl).symm
  intro a
  fin_cases a <;> rfl

end Cert.Value

end
-- ==== Proof.Inputs.lean ====
/-
  The kernel's result arrays. Each input block is a box of an argument in the layout the host passes it in, so the gradients of one block are the gradients
  over the whole arrays; the blocks cover the three result arrays, and the host's last transposes bring them to the layout of the results.
-/
module

public import proofs.«01_k».proof.Proof.Blocks
public import proofs.«01_k».proof.Proof.GradQ
public import proofs.«01_k».proof.Proof.GradK
public import proofs.«01_k».proof.Proof.GradV
public import proofs.«01_k».proof.Proof.Whole
public import proofs.«01_k».proof.Proof.Gen.KernelIdeal.Frame
public import Idealize.ShloMosaic.Lib.Pipeline.ValueKit.Geometry
public import Idealize.ShloMosaic.Lib.StableHlo.Run

@[expose] public section

set_option maxRecDepth 16384

noncomputable section

namespace Cert.KernelIdeal.Gen

open Cert.KernelIdeal Cert.Value Idealize.ShloMosaic Idealize.ShloMosaic.TcCoe Idealize.SL.Sem

variable (m : (ℓ : Loc nD τ sig) → Buf (Elt Ideal) ℓ) (c : Dev nD)

/-! ## The arguments as functions of natural numbers -/

/-- The queries. -/
abbrev argQ : ℕ → ℕ → ℕ → ℕ → EReal := feat (φ := .fp8e4m3) (bitcastToFloat (F := Ideal) .fp8e4m3 (m ((c : Thread nD τ).loc main_arg0)))
/-- The keys. -/
abbrev argK : ℕ → ℕ → ℕ → ℕ → EReal := feat (φ := .fp8e4m3) (bitcastToFloat (F := Ideal) .fp8e4m3 (m ((c : Thread nD τ).loc main_arg1)))
/-- The values. -/
abbrev argV : ℕ → ℕ → ℕ → ℕ → EReal := feat (φ := .fp8e4m3) (bitcastToFloat (F := Ideal) .fp8e4m3 (m ((c : Thread nD τ).loc main_arg2)))
/-- The cotangent. -/
abbrev argD : ℕ → ℕ → ℕ → ℕ → EReal := feat (φ := .fp8e5m2) (bitcastToFloat (F := Ideal) .fp8e5m2 (m ((c : Thread nD τ).loc main_arg3)))
/-- The scales of the queries. -/
abbrev argQs : ℕ → ℕ → ℕ → EReal := chunk (φ := .f32) (m ((c : Thread nD τ).loc main_arg4))
/-- The scales of the keys. -/
abbrev argKs : ℕ → ℕ → ℕ → EReal := chunk (φ := .f32) (m ((c : Thread nD τ).loc main_arg5))
/-- The scales of the values. -/
abbrev argVs : ℕ → ℕ → ℕ → EReal := chunk (φ := .f32) (m ((c : Thread nD τ).loc main_arg6))
/-- The scales of the cotangent. -/
abbrev argW : ℕ → ℕ → ℕ → EReal := num3 (φ := .f32) (m ((c : Thread nD τ).loc main_arg7))

/-! ## The blocks of the inputs -/

theorem index_0 : ∀ t : Fin cfg0.N, win0_0.index t = ![0, 0, 0] := (by decide +kernel : ∀ t : Fin grid0.N, _)

theorem array_0 (z : S5x3x20.Idx) : (V m c main_v8 z : EReal) = argQs m c (z 0).val (z 1).val (z 2).val := by
  rw [show V m c main_v8 = transpose S5x3x20 [2, 0, 1] (m ((c : Thread nD τ).loc main_arg4)) transposes_S3x20x5_S5x3x20_2_0_1 from by
    show StableHlo.after hostOps0 _ (Proc.devRef .tc main_v8) = _
    after_results
    try rfl]
  exact transposed3 (φ := .f32) _ _ z

theorem block_0 (t : Fin cfg0.N) (y : S5x3x20.Idx) : (iblk m c 0 t y : EReal) = argQs m c (y 0).val (y 1).val (y 2).val := by
  blk_simp [iblk]
  refine (array_0 m c _).trans ?_
  have e : ∀ a, (((win0_0.blk t).view.emb y) a).val = win0_0.index t a * win0_0.size a + (y a).val := fun a =>
    Pipeline.Window.rect_emb_val win0_0 t y a
  rw [e 0, e 1, e 2, index_0]
  show argQs m c (0 * 5 + _) (0 * 3 + _) (0 * 20 + _) = _
  simp only [Nat.zero_mul, Nat.zero_add]

theorem index_1 : ∀ t : Fin cfg0.N, win0_1.index t = ![0, 0, 0] := (by decide +kernel : ∀ t : Fin grid0.N, _)

theorem array_1 (z : S5x3x20.Idx) : (V m c main_v9 z : EReal) = argKs m c (z 0).val (z 1).val (z 2).val := by
  rw [show V m c main_v9 = transpose S5x3x20 [2, 0, 1] (m ((c : Thread nD τ).loc main_arg5)) transposes_S3x20x5_S5x3x20_2_0_1 from by
    show StableHlo.after hostOps0 _ (Proc.devRef .tc main_v9) = _
    after_results
    try rfl]
  exact transposed3 (φ := .f32) _ _ z

theorem block_1 (t : Fin cfg0.N) (y : S5x3x20.Idx) : (iblk m c 1 t y : EReal) = argKs m c (y 0).val (y 1).val (y 2).val := by
  blk_simp [iblk]
  refine (array_1 m c _).trans ?_
  have e : ∀ a, (((win0_1.blk t).view.emb y) a).val = win0_1.index t a * win0_1.size a + (y a).val := fun a =>
    Pipeline.Window.rect_emb_val win0_1 t y a
  rw [e 0, e 1, e 2, index_1]
  show argKs m c (0 * 5 + _) (0 * 3 + _) (0 * 20 + _) = _
  simp only [Nat.zero_mul, Nat.zero_add]

theorem index_2 : ∀ t : Fin cfg0.N, win0_2.index t = ![0, 0, 0] := (by decide +kernel : ∀ t : Fin grid0.N, _)

theorem array_2 (z : S5x3x20.Idx) : (V m c main_v10 z : EReal) = argVs m c (z 0).val (z 1).val (z 2).val := by
  rw [show V m c main_v10 = transpose S5x3x20 [2, 0, 1] (m ((c : Thread nD τ).loc main_arg6)) transposes_S3x20x5_S5x3x20_2_0_1 from by
    show StableHlo.after hostOps0 _ (Proc.devRef .tc main_v10) = _
    after_results
    try rfl]
  exact transposed3 (φ := .f32) _ _ z

theorem block_2 (t : Fin cfg0.N) (y : S5x3x20.Idx) : (iblk m c 2 t y : EReal) = argVs m c (y 0).val (y 1).val (y 2).val := by
  blk_simp [iblk]
  refine (array_2 m c _).trans ?_
  have e : ∀ a, (((win0_2.blk t).view.emb y) a).val = win0_2.index t a * win0_2.size a + (y a).val := fun a =>
    Pipeline.Window.rect_emb_val win0_2 t y a
  rw [e 0, e 1, e 2, index_2]
  show argVs m c (0 * 5 + _) (0 * 3 + _) (0 * 20 + _) = _
  simp only [Nat.zero_mul, Nat.zero_add]

theorem index_3 : ∀ t : Fin cfg0.N, win0_3.index t = ![(grid0.coords t 0).val, (grid0.coords t 1).val, 0, 0] := (by decide +kernel : ∀ t : Fin grid0.N, _)

theorem array_3 (z : S3x20x160x640.Idx) : (V m c main_v4 z : EReal) = argQ m c (z 0).val (z 1).val (z 2).val (z 3).val := by
  rw [show V m c main_v4 = transpose S3x20x160x640 [0, 1, 3, 2] (bitcastToFloat (F := Ideal) .fp8e4m3 (m ((c : Thread nD τ).loc main_arg0))) transposes_S3x20x640x160_S3x20x160x640_0_1_3_2 from by
    show StableHlo.after hostOps0 _ (Proc.devRef .tc main_v4) = _
    after_results
    try rfl]
  exact transposed4 (φ := .fp8e4m3) _ _ z

theorem block_3 (t : Fin cfg0.N) (y : S1x4x160x640.Idx) :
    (iblk m c 3 t y : EReal) = argQ m c (grid0.coords t 0).val (4 * (grid0.coords t 1).val + (y 1).val) (y 2).val (y 3).val := by
  blk_simp [iblk]
  refine (array_3 m c _).trans ?_
  have e : ∀ a, (((win0_3.blk t).view.emb y) a).val = win0_3.index t a * win0_3.size a + (y a).val := fun a =>
    Pipeline.Window.rect_emb_val win0_3 t y a
  have h0 : (y 0).val = 0 := Nat.lt_one_iff.mp (y 0).isLt
  rw [e 0, e 1, e 2, e 3, index_3, h0]
  show argQ m c ((grid0.coords t 0).val * 1 + 0) ((grid0.coords t 1).val * 4 + _) (0 * 160 + _) (0 * 640 + _) = _
  simp only [Nat.zero_mul, Nat.zero_add, Nat.mul_one, Nat.add_zero, Nat.mul_comm 4]

theorem index_4 : ∀ t : Fin cfg0.N, win0_4.index t = ![(grid0.coords t 0).val, (grid0.coords t 1).val, 0, 0] := (by decide +kernel : ∀ t : Fin grid0.N, _)

theorem array_4 (z : S3x20x160x640.Idx) : (V m c main_v5 z : EReal) = argK m c (z 0).val (z 1).val (z 2).val (z 3).val := by
  rw [show V m c main_v5 = transpose S3x20x160x640 [0, 1, 3, 2] (bitcastToFloat (F := Ideal) .fp8e4m3 (m ((c : Thread nD τ).loc main_arg1))) transposes_S3x20x640x160_S3x20x160x640_0_1_3_2 from by
    show StableHlo.after hostOps0 _ (Proc.devRef .tc main_v5) = _
    after_results
    try rfl]
  exact transposed4 (φ := .fp8e4m3) _ _ z

theorem block_4 (t : Fin cfg0.N) (y : S1x4x160x640.Idx) :
    (iblk m c 4 t y : EReal) = argK m c (grid0.coords t 0).val (4 * (grid0.coords t 1).val + (y 1).val) (y 2).val (y 3).val := by
  blk_simp [iblk]
  refine (array_4 m c _).trans ?_
  have e : ∀ a, (((win0_4.blk t).view.emb y) a).val = win0_4.index t a * win0_4.size a + (y a).val := fun a =>
    Pipeline.Window.rect_emb_val win0_4 t y a
  have h0 : (y 0).val = 0 := Nat.lt_one_iff.mp (y 0).isLt
  rw [e 0, e 1, e 2, e 3, index_4, h0]
  show argK m c ((grid0.coords t 0).val * 1 + 0) ((grid0.coords t 1).val * 4 + _) (0 * 160 + _) (0 * 640 + _) = _
  simp only [Nat.zero_mul, Nat.zero_add, Nat.mul_one, Nat.add_zero, Nat.mul_comm 4]

theorem index_5 : ∀ t : Fin cfg0.N, win0_5.index t = ![(grid0.coords t 0).val, (grid0.coords t 1).val, 0, 0] := (by decide +kernel : ∀ t : Fin grid0.N, _)

theorem array_5 (z : S3x20x320x640.Idx) : (V m c main_v6 z : EReal) = argV m c (z 0).val (z 1).val (z 2).val (z 3).val := by
  rw [show V m c main_v6 = transpose S3x20x320x640 [0, 1, 3, 2] (bitcastToFloat (F := Ideal) .fp8e4m3 (m ((c : Thread nD τ).loc main_arg2))) transposes_S3x20x640x320_S3x20x320x640_0_1_3_2 from by
    show StableHlo.after hostOps0 _ (Proc.devRef .tc main_v6) = _
    after_results
    try rfl]
  exact transposed4 (φ := .fp8e4m3) _ _ z

theorem block_5 (t : Fin cfg0.N) (y : S1x4x320x640.Idx) :
    (iblk m c 5 t y : EReal) = argV m c (grid0.coords t 0).val (4 * (grid0.coords t 1).val + (y 1).val) (y 2).val (y 3).val := by
  blk_simp [iblk]
  refine (array_5 m c _).trans ?_
  have e : ∀ a, (((win0_5.blk t).view.emb y) a).val = win0_5.index t a * win0_5.size a + (y a).val := fun a =>
    Pipeline.Window.rect_emb_val win0_5 t y a
  have h0 : (y 0).val = 0 := Nat.lt_one_iff.mp (y 0).isLt
  rw [e 0, e 1, e 2, e 3, index_5, h0]
  show argV m c ((grid0.coords t 0).val * 1 + 0) ((grid0.coords t 1).val * 4 + _) (0 * 320 + _) (0 * 640 + _) = _
  simp only [Nat.zero_mul, Nat.zero_add, Nat.mul_one, Nat.add_zero, Nat.mul_comm 4]

theorem index_6 : ∀ t : Fin cfg0.N, win0_6.index t = ![(grid0.coords t 0).val, (grid0.coords t 1).val, 0, 0] := (by decide +kernel : ∀ t : Fin grid0.N, _)

theorem array_6 (z : S3x20x320x640.Idx) : (V m c main_v7 z : EReal) = argD m c (z 0).val (z 1).val (z 2).val (z 3).val := by
  rw [show V m c main_v7 = transpose S3x20x320x640 [0, 1, 3, 2] (bitcastToFloat (F := Ideal) .fp8e5m2 (m ((c : Thread nD τ).loc main_arg3))) transposes_S3x20x640x320_S3x20x320x640_0_1_3_2 from by
    show StableHlo.after hostOps0 _ (Proc.devRef .tc main_v7) = _
    after_results
    try rfl]
  exact transposed4 (φ := .fp8e5m2) _ _ z

theorem block_6 (t : Fin cfg0.N) (y : S1x4x320x640.Idx) :
    (iblk m c 6 t y : EReal) = argD m c (grid0.coords t 0).val (4 * (grid0.coords t 1).val + (y 1).val) (y 2).val (y 3).val := by
  blk_simp [iblk]
  refine (array_6 m c _).trans ?_
  have e : ∀ a, (((win0_6.blk t).view.emb y) a).val = win0_6.index t a * win0_6.size a + (y a).val := fun a =>
    Pipeline.Window.rect_emb_val win0_6 t y a
  have h0 : (y 0).val = 0 := Nat.lt_one_iff.mp (y 0).isLt
  rw [e 0, e 1, e 2, e 3, index_6, h0]
  show argD m c ((grid0.coords t 0).val * 1 + 0) ((grid0.coords t 1).val * 4 + _) (0 * 320 + _) (0 * 640 + _) = _
  simp only [Nat.zero_mul, Nat.zero_add, Nat.mul_one, Nat.add_zero, Nat.mul_comm 4]

theorem index_7 : ∀ t : Fin cfg0.N, win0_7.index t = ![(grid0.coords t 0).val, 0, 0] := (by decide +kernel : ∀ t : Fin grid0.N, _)

theorem array_7 (z : S3x20x640.Idx) : (V m c main_arg7 z : EReal) = argW m c (z 0).val (z 1).val (z 2).val := by
  rw [show V m c main_arg7 = m ((c : Thread nD τ).loc main_arg7) from by
    show StableHlo.after hostOps0 _ (Proc.devRef .tc main_arg7) = _
    after_results
    try rfl]
  exact (num3_val (φ := .f32) _ z _ _ _ rfl rfl rfl).symm

theorem block_7 (t : Fin cfg0.N) (y : S1x20x640.Idx) :
    (iblk m c 7 t y : EReal) = argW m c (grid0.coords t 0).val (y 1).val (y 2).val := by
  blk_simp [iblk]
  refine (array_7 m c _).trans ?_
  have e : ∀ a, (((win0_7.blk t).view.emb y) a).val = win0_7.index t a * win0_7.size a + (y a).val := fun a =>
    Pipeline.Window.rect_emb_val win0_7 t y a
  have h0 : (y 0).val = 0 := Nat.lt_one_iff.mp (y 0).isLt
  rw [e 0, e 1, e 2, index_7, h0]
  show argW m c ((grid0.coords t 0).val * 1 + 0) (0 * 20 + _) (0 * 640 + _) = _
  simp only [Nat.zero_mul, Nat.zero_add, Nat.mul_one, Nat.add_zero]

end Cert.KernelIdeal.Gen

end
-- ==== Proof.Arrays.lean ====
/-
  The kernel's three result arrays. At a grid point the blocks written back are the gradients over the whole arrays at the block's batch and heads, and the
  blocks cover the arrays.
-/
module

public import proofs.«01_k».proof.Proof.Blocks
public import proofs.«01_k».proof.Proof.GradQ
public import proofs.«01_k».proof.Proof.GradK
public import proofs.«01_k».proof.Proof.GradV
public import proofs.«01_k».proof.Proof.Whole
public import proofs.«01_k».proof.Proof.Inputs
public import proofs.«01_k».proof.Proof.Gen.KernelIdeal.Frame
public import Idealize.ShloMosaic.Lib.Pipeline.ValueKit.Geometry
public import Idealize.ShloMosaic.Lib.StableHlo.Run

@[expose] public section

set_option maxRecDepth 16384

noncomputable section

namespace Cert.KernelIdeal.Gen

open Cert.KernelIdeal Cert.Value Idealize.ShloMosaic Idealize.ShloMosaic.TcCoe Idealize.SL.Sem

variable (m : (ℓ : Loc nD τ sig) → Buf (Elt Ideal) ℓ) (c : Dev nD)

/-! ## The gradient of the queries -/

theorem index_8 : ∀ t : Fin cfg0.N, win0_8.index t = ![(grid0.coords t 0).val, (grid0.coords t 1).val, 0, 0] := (by decide +kernel : ∀ t : Fin grid0.N, _)

/-- The block written at a grid point, in terms of the blocks of the inputs. -/
theorem point_8 (t : Fin cfg0.N) (y : S1x4x160x640.Idx) : ((outsAt0 m c t).1 y : EReal)
    = gradQ (iblk m c 4 t) (iblk m c 5 t) (iblk m c 6 t) (iblk m c 7 t) (iblk m c 1 t) (iblk m c 2 t) (grid0.coords t 0).val (grid0.coords t 1).val
        (y 1).val (y 2).val (y 3).val := by
  unfold outsAt0
  dsimp only
  exact out_gradQ ..

/-- The block written at a grid point, in terms of the arguments. -/
theorem written_8 (t : Fin cfg0.N) (y : S1x4x160x640.Idx) : ((outsAt0 m c t).1 y : EReal)
    = wholeQ (argK m c) (argV m c) (argD m c) (argW m c) (argKs m c) (argVs m c)
        (grid0.coords t 0).val (4 * (grid0.coords t 1).val + (y 1).val) (y 2).val (y 3).val :=
  (point_8 m c t y).trans
    (gradQ_whole (block_3 m c t) (block_4 m c t) (block_5 m c t) (block_6 m c t) (block_7 m c t) (block_0 m c t) (block_1 m c t) (block_2 m c t)
      (grid0.coords t 0).isLt (grid0.coords t 1).isLt (y 1).isLt (y 2).isLt (y 3).isLt)

/-- The array the kernel leaves. -/
theorem result_8 : (dats m 0 c).arrAt 8 cfg0.N
    = fun z : S3x20x160x640.Idx => (wholeQ (argK m c) (argV m c) (argD m c) (argW m c) (argKs m c) (argVs m c)
        (z 0).val (z 1).val (z 2).val (z 3).val : Ideal .bf16) := by
  refine (dats m 0 c).arrAt_eq_of_covers 8 _ (by decide +kernel) fun t hf y => ?_
  blk_simp
  rw [after0_8]
  rw [index_8]
  refine (written_8 m c t y).trans ?_
  show _ = wholeQ (argK m c) (argV m c) (argD m c) (argW m c) (argKs m c) (argVs m c) (grid0.coords t 0).val ((grid0.coords t 1).val * 4 + _) (0 * 160 + _) (0 * 640 + _)
  simp only [Nat.zero_mul, Nat.zero_add, Nat.mul_comm 4]

/-! ## The gradient of the keys -/

theorem index_9 : ∀ t : Fin cfg0.N, win0_9.index t = ![(grid0.coords t 0).val, (grid0.coords t 1).val, 0, 0] := (by decide +kernel : ∀ t : Fin grid0.N, _)

/-- The block written at a grid point, in terms of the blocks of the inputs. -/
theorem point_9 (t : Fin cfg0.N) (y : S1x4x160x640.Idx) : ((outsAt0 m c t).2.1 y : EReal)
    = gradK (iblk m c 3 t) (iblk m c 5 t) (iblk m c 6 t) (iblk m c 7 t) (iblk m c 0 t) (iblk m c 2 t) (grid0.coords t 0).val (grid0.coords t 1).val
        (y 1).val (y 2).val (y 3).val := by
  unfold outsAt0
  dsimp only
  exact out_gradK ..

/-- The block written at a grid point, in terms of the arguments. -/
theorem written_9 (t : Fin cfg0.N) (y : S1x4x160x640.Idx) : ((outsAt0 m c t).2.1 y : EReal)
    = wholeK (argQ m c) (argV m c) (argD m c) (argW m c) (argQs m c) (argVs m c)
        (grid0.coords t 0).val (4 * (grid0.coords t 1).val + (y 1).val) (y 2).val (y 3).val :=
  (point_9 m c t y).trans
    (gradK_whole (block_3 m c t) (block_4 m c t) (block_5 m c t) (block_6 m c t) (block_7 m c t) (block_0 m c t) (block_1 m c t) (block_2 m c t)
      (grid0.coords t 0).isLt (grid0.coords t 1).isLt (y 1).isLt (y 2).isLt (y 3).isLt)

/-- The array the kernel leaves. -/
theorem result_9 : (dats m 0 c).arrAt 9 cfg0.N
    = fun z : S3x20x160x640.Idx => (wholeK (argQ m c) (argV m c) (argD m c) (argW m c) (argQs m c) (argVs m c)
        (z 0).val (z 1).val (z 2).val (z 3).val : Ideal .bf16) := by
  refine (dats m 0 c).arrAt_eq_of_covers 9 _ (by decide +kernel) fun t hf y => ?_
  blk_simp
  rw [after0_9]
  rw [index_9]
  refine (written_9 m c t y).trans ?_
  show _ = wholeK (argQ m c) (argV m c) (argD m c) (argW m c) (argQs m c) (argVs m c) (grid0.coords t 0).val ((grid0.coords t 1).val * 4 + _) (0 * 160 + _) (0 * 640 + _)
  simp only [Nat.zero_mul, Nat.zero_add, Nat.mul_comm 4]

/-! ## The gradient of the values -/

theorem index_10 : ∀ t : Fin cfg0.N, win0_10.index t = ![(grid0.coords t 0).val, (grid0.coords t 1).val, 0, 0] := (by decide +kernel : ∀ t : Fin grid0.N, _)

/-- The block written at a grid point, in terms of the blocks of the inputs. -/
theorem point_10 (t : Fin cfg0.N) (y : S1x4x320x640.Idx) : ((outsAt0 m c t).2.2 y : EReal)
    = gradV (iblk m c 3 t) (iblk m c 4 t) (iblk m c 6 t) (iblk m c 7 t) (iblk m c 0 t) (iblk m c 1 t) (grid0.coords t 0).val (grid0.coords t 1).val
        (y 1).val (y 2).val (y 3).val := by
  unfold outsAt0
  dsimp only
  exact out_gradV ..

/-- The block written at a grid point, in terms of the arguments. -/
theorem written_10 (t : Fin cfg0.N) (y : S1x4x320x640.Idx) : ((outsAt0 m c t).2.2 y : EReal)
    = wholeV (argQ m c) (argK m c) (argD m c) (argW m c) (argQs m c) (argKs m c)
        (grid0.coords t 0).val (4 * (grid0.coords t 1).val + (y 1).val) (y 2).val (y 3).val :=
  (point_10 m c t y).trans
    (gradV_whole (block_3 m c t) (block_4 m c t) (block_5 m c t) (block_6 m c t) (block_7 m c t) (block_0 m c t) (block_1 m c t) (block_2 m c t)
      (grid0.coords t 0).isLt (grid0.coords t 1).isLt (y 1).isLt (y 2).isLt (y 3).isLt)

/-- The array the kernel leaves. -/
theorem result_10 : (dats m 0 c).arrAt 10 cfg0.N
    = fun z : S3x20x320x640.Idx => (wholeV (argQ m c) (argK m c) (argD m c) (argW m c) (argQs m c) (argKs m c)
        (z 0).val (z 1).val (z 2).val (z 3).val : Ideal .bf16) := by
  refine (dats m 0 c).arrAt_eq_of_covers 10 _ (by decide +kernel) fun t hf y => ?_
  blk_simp
  rw [after0_10]
  rw [index_10]
  refine (written_10 m c t y).trans ?_
  show _ = wholeV (argQ m c) (argK m c) (argD m c) (argW m c) (argQs m c) (argKs m c) (grid0.coords t 0).val ((grid0.coords t 1).val * 4 + _) (0 * 320 + _) (0 * 640 + _)
  simp only [Nat.zero_mul, Nat.zero_add, Nat.mul_comm 4]

end Cert.KernelIdeal.Gen

end
-- ==== Proof.Results.lean ====
/-
  The run of the kernel: its three results are the gradients over the whole arrays, with position before feature, and its arguments are unchanged.
-/
module

public import proofs.«01_k».proof.Proof.Arrays
public import Idealize.ShloMosaic.Lib.Pipeline.ValueKit.Geometry
public import Idealize.ShloMosaic.Lib.StableHlo.Run

@[expose] public section

set_option maxRecDepth 16384

noncomputable section

namespace Cert.KernelIdeal.Gen

open Cert.KernelIdeal Cert.Value Idealize.ShloMosaic Idealize.ShloMosaic.TcCoe Idealize.SL.Sem

variable (m : (ℓ : Loc nD τ sig) → Buf (Elt Ideal) ℓ) (c : Dev nD)

theorem back4 {n0 n1 n2 n3 : ℕ} {α : Type} (f : ℕ → ℕ → ℕ → ℕ → α)
    (h : Shape.Transposes ⟨4, ![n0, n1, n2, n3]⟩ [0, 1, 3, 2] ⟨4, ![n0, n1, n3, n2]⟩) :
    transpose ⟨4, ![n0, n1, n3, n2]⟩ [0, 1, 3, 2] (fun z : (⟨4, ![n0, n1, n2, n3]⟩ : Shape).Idx => f (z 0).val (z 1).val (z 2).val (z 3).val) h
      = fun z => f (z 0).val (z 1).val (z 3).val (z 2).val := by
  funext z
  exact transpose_apply _ _ h z (ValueIdx.ix4 (z 0) (z 1) (z 3) (z 2)) (fun a => by fin_cases a <;> rfl)

theorem arrRef_injective : Function.Injective (Pipeline.arrRef spec0) := by decide

/-- The gradient of the queries as returned. -/
def dq : S3x20x640x160.Idx → Ideal .bf16 := fun z =>
  wholeQ (argK m c) (argV m c) (argD m c) (argW m c) (argKs m c) (argVs m c) (z 0).val (z 1).val (z 3).val (z 2).val

theorem tail_dq : Pipeline.afterTail₀ cfgs (dats m) 0 (V0 m) [hostOps1] c main_v12 = dq m c := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v11_0) = _ from
    Pipeline.withArrays_arr spec0 arrRef_injective c _ _ 8]
  refine Eq.trans (congrArg (fun X : S3x20x160x640.Idx → Ideal .bf16 => transpose S3x20x640x160 [0, 1, 3, 2] X transposes_S3x20x160x640_S3x20x640x160_0_1_3_2) (result_8 m c)) ?_
  exact back4 (fun b h e t => (wholeQ (argK m c) (argV m c) (argD m c) (argW m c) (argKs m c) (argVs m c) b h e t : Ideal .bf16)) _

/-- The gradient of the keys as returned. -/
def dk : S3x20x640x160.Idx → Ideal .bf16 := fun z =>
  wholeK (argQ m c) (argV m c) (argD m c) (argW m c) (argQs m c) (argVs m c) (z 0).val (z 1).val (z 3).val (z 2).val

theorem tail_dk : Pipeline.afterTail₀ cfgs (dats m) 0 (V0 m) [hostOps1] c main_v13 = dk m c := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v11_1) = _ from
    Pipeline.withArrays_arr spec0 arrRef_injective c _ _ 9]
  refine Eq.trans (congrArg (fun X : S3x20x160x640.Idx → Ideal .bf16 => transpose S3x20x640x160 [0, 1, 3, 2] X transposes_S3x20x160x640_S3x20x640x160_0_1_3_2) (result_9 m c)) ?_
  exact back4 (fun b h e t => (wholeK (argQ m c) (argV m c) (argD m c) (argW m c) (argQs m c) (argVs m c) b h e t : Ideal .bf16)) _

/-- The gradient of the values as returned. -/
def dv : S3x20x640x320.Idx → Ideal .bf16 := fun z =>
  wholeV (argQ m c) (argK m c) (argD m c) (argW m c) (argQs m c) (argKs m c) (z 0).val (z 1).val (z 3).val (z 2).val

theorem tail_dv : Pipeline.afterTail₀ cfgs (dats m) 0 (V0 m) [hostOps1] c main_v14 = dv m c := by
  unfold Pipeline.afterTail₀
  show StableHlo.after hostOps1 _ (Proc.devRef .tc main_v14) = _
  after_results
  rw [show Pipeline.withArrays (cfgs 0).spec c (V0 m c) (fun w => (dats m 0 c).arrAt w (cfgs 0).N) (Proc.devRef .tc main_v11_2) = _ from
    Pipeline.withArrays_arr spec0 arrRef_injective c _ _ 10]
  refine Eq.trans (congrArg (fun X : S3x20x320x640.Idx → Ideal .bf16 => transpose S3x20x640x320 [0, 1, 3, 2] X transposes_S3x20x320x640_S3x20x640x320_0_1_3_2) (result_10 m c)) ?_
  exact back4 (fun b h e t => (wholeV (argQ m c) (argK m c) (argD m c) (argW m c) (argQs m c) (argKs m c) b h e t : Ideal .bf16)) _

/-- Every run returns the three gradients and leaves its arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v12) = dq m c
      ∧ r.2.mem ((c.tc : Thread nD τ).loc main_v13) = dk m c
      ∧ r.2.mem ((c.tc : Thread nD τ).loc main_v14) = dv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono ?_ (θ_run_and (run_main m ρ) (unchanged m ρ))
  rintro r ⟨hr, hu⟩ c
  exact ⟨((hr c).2 main_v12 (Pipeline.mem_restRefs_of main_v12 (by decide) (by decide))).trans (tail_dq m c),
    ((hr c).2 main_v13 (Pipeline.mem_restRefs_of main_v13 (by decide) (by decide))).trans (tail_dk m c),
    ((hr c).2 main_v14 (Pipeline.mem_restRefs_of main_v14 (by decide) (by decide))).trans (tail_dv m c), hu c⟩

end Cert.KernelIdeal.Gen

end
-- ==== Proof.Chunked.lean ====
/-
  The three gradients as the reference forms them, chunk by chunk with running states, and their equality with the sums over the whole sequence when every
  input is a real number. (With an infinite input they differ: an infinite scale outside a sum is not the sum of the scaled terms.)
-/
module

public import proofs.«01_k».proof.Proof.Whole

@[expose] public section

noncomputable section

namespace Cert.Value

open Idealize.ShloMosaic
open scoped BigOperators

section
variable {R : Type} [Mul R] [AddCommMonoid R] (Q K V D : ℕ → ℕ → ℕ → ℕ → R) (W qs ks vs : ℕ → ℕ → ℕ → R) (f : R)

/-- One chunk's scaled product of keys and values. -/
def stepU (b h n d e : ℕ) : R := (∑ s ∈ Finset.range 128, K b h d (128 * n + s) * V b h e (128 * n + s)) * (ks n b h * vs n b h)

/-- One chunk's product of the scaled queries and the scaled cotangent. -/
def stepW (b h n d e : ℕ) : R := ∑ t ∈ Finset.range 128, (Q b h d (128 * n + t) * qs n b h) * (D b h e (128 * n + t) * W b h (128 * n + t))

/-- The state before a chunk. -/
def stateU (b h n d e : ℕ) : R := ∑ i ∈ Finset.range n, stepU K V ks vs b h i d e

/-- The state after a chunk, from the end of the sequence. -/
def stateW (b h n d e : ℕ) : R := ∑ i ∈ Finset.Ico (n + 1) 5, stepW Q D W qs b h i d e

/-- A chunk's masked score of the cotangent and the values. -/
def scoreA (b h n t s : ℕ) : R :=
  if s ≤ t then (∑ e ∈ Finset.range 320, D b h e (128 * n + t) * V b h e (128 * n + s)) * (W b h (128 * n + t) * vs n b h) else 0

/-- A chunk's masked score of the queries and the keys. -/
def scoreP (b h n t s : ℕ) : R :=
  if s ≤ t then (∑ d ∈ Finset.range 160, Q b h d (128 * n + t) * K b h d (128 * n + s)) * (qs n b h * ks n b h) else 0

/-- The reference's gradient of the queries. -/
def chunkQ (b h n r d : ℕ) : R :=
  ((∑ e ∈ Finset.range 320, (D b h e (128 * n + r) * W b h (128 * n + r)) * stateU K V ks vs b h n d e)
    + ∑ s ∈ Finset.range 128, scoreA V D W vs b h n r s * (K b h d (128 * n + s) * ks n b h)) * f

/-- The reference's gradient of the keys. -/
def chunkK (b h n r d : ℕ) : R :=
  ((∑ e ∈ Finset.range 320, (V b h e (128 * n + r) * vs n b h) * stateW Q D W qs b h n d e)
    + ∑ t ∈ Finset.range 128, scoreA V D W vs b h n t r * (Q b h d (128 * n + t) * qs n b h)) * f

/-- The reference's gradient of the values. -/
def chunkV (b h n r e : ℕ) : R :=
  ((∑ d ∈ Finset.range 160, (K b h d (128 * n + r) * ks n b h) * stateW Q D W qs b h n d e)
    + ∑ t ∈ Finset.range 128, scoreP Q K qs ks b h n t r * (D b h e (128 * n + t) * W b h (128 * n + t))) * f

end

/-! ## Over the reals -/

/-- A sum over the sequence is a sum over the chunks and the positions in a chunk. -/
theorem sum_chunks {R : Type} [AddCommMonoid R] (F : ℕ → R) :
    ∑ s ∈ Finset.range 640, F s = ∑ i ∈ Finset.range 5, ∑ c ∈ Finset.range 128, F (128 * i + c) := by
  have key : ∀ n : ℕ, ∑ s ∈ Finset.range (128 * n), F s = ∑ i ∈ Finset.range n, ∑ c ∈ Finset.range 128, F (128 * i + c) := by
    intro n
    induction n with
    | zero => simp
    | succ n ih => rw [Nat.mul_succ, Finset.sum_range_add, ih, Finset.sum_range_succ (fun i => ∑ c ∈ Finset.range 128, F (128 * i + c))]
  exact key 5

theorem split_low {R : Type} [AddCommMonoid R] (G : ℕ → R) {n : ℕ} (hn : n < 5) (h0 : ∀ i, n < i → i < 5 → G i = 0) :
    ∑ i ∈ Finset.range 5, G i = ∑ i ∈ Finset.range n, G i + G n := by
  rw [← Finset.sum_range_succ]
  refine (Finset.sum_subset (Finset.range_mono hn) fun i hi hni => ?_).symm
  simp only [Finset.mem_range] at hi hni
  exact h0 i (by omega) hi

theorem split_high {R : Type} [AddCommMonoid R] (G : ℕ → R) {n : ℕ} (hn : n < 5) (h0 : ∀ i, i < n → G i = 0) :
    ∑ i ∈ Finset.range 5, G i = ∑ i ∈ Finset.Ico (n + 1) 5, G i + G n := by
  rw [add_comm, ← Finset.sum_eq_sum_Ico_succ_bot hn, Finset.range_eq_Ico, ← Finset.sum_Ico_consecutive G (Nat.zero_le n) hn.le,
    Finset.sum_eq_zero fun i hi => h0 i (Finset.mem_Ico.mp hi).2, zero_add]

section
variable (q k v d : ℕ → ℕ → ℕ → ℕ → ℝ) (w qs ks vs : ℕ → ℕ → ℕ → ℝ) (f : ℝ)

/-- The masked product over the reals. -/
def realScore (E : ℕ) (x y : ℕ → ℕ → ℕ → ℕ → ℝ) (b h t s : ℕ) : ℝ := if s ≤ t then ∑ e ∈ Finset.range E, x b h e t * y b h e s else 0

theorem real_cross (E : ℕ) (I : Finset ℕ) (A : ℕ → ℝ) (α : ℝ) (X β : ℕ → ℕ → ℝ) (Y : ℕ → ℕ → ℕ → ℝ) :
    ∑ e ∈ Finset.range E, (A e * α) * (∑ i ∈ I, ∑ c ∈ Finset.range 128, X i c * (Y e i c * β i c))
      = (∑ i ∈ I, ∑ c ∈ Finset.range 128, X i c * β i c * ∑ e ∈ Finset.range E, A e * Y e i c) * α := by
  simp only [Finset.mul_sum, Finset.sum_mul]
  rw [Finset.sum_comm]
  refine Finset.sum_congr rfl fun i _ => ?_
  rw [Finset.sum_comm]
  exact Finset.sum_congr rfl fun c _ => Finset.sum_congr rfl fun e _ => by ring

theorem real_Q (b h n r j : ℕ) (hn : n < 5) (hr : r < 128) :
    (∑ s ∈ Finset.range 640, k b h j s * (vs (s / 128) b h * ks (s / 128) b h) * realScore 320 d v b h (128 * n + r) s) * (w b h (128 * n + r) * f)
      = chunkQ k v d w ks vs f b h n r j := by
  rw [sum_chunks, split_low _ hn fun i hi _ => Finset.sum_eq_zero fun c hc => by
    rw [realScore, if_neg (by have := Finset.mem_range.mp hc; omega), mul_zero]]
  unfold chunkQ
  rw [add_mul, add_mul]
  congr 1
  · rw [← mul_assoc]
    congr 1
    refine Eq.trans ?_ ((real_cross 320 (Finset.range n) (fun e => d b h e (128 * n + r)) (w b h (128 * n + r)) (fun i c => k b h j (128 * i + c))
      (fun i _ => ks i b h * vs i b h) (fun e i c => v b h e (128 * i + c))).symm.trans ?_)
    · congr 1
      refine Finset.sum_congr rfl fun i hi => Finset.sum_congr rfl fun c hc => ?_
      have hi := Finset.mem_range.mp hi
      have hc := Finset.mem_range.mp hc
      rw [realScore, if_pos (by omega), show (128 * i + c) / 128 = i by omega, mul_comm (vs i b h)]
    · refine Finset.sum_congr rfl fun e _ => congrArg _ (Finset.sum_congr rfl fun i _ => ?_)
      rw [stepU, Finset.sum_mul]
      exact Finset.sum_congr rfl fun c _ => by ring
  · rw [← mul_assoc]
    congr 1
    rw [Finset.sum_mul]
    refine Finset.sum_congr rfl fun c hc => ?_
    have hc := Finset.mem_range.mp hc
    rw [realScore, scoreA, show (128 * n + c) / 128 = n by omega]
    by_cases hle : c ≤ r
    · rw [if_pos hle, if_pos (by omega)]
      ring
    · rw [if_neg hle, if_neg (by omega)]
      ring

theorem real_K (b h n r j : ℕ) (hn : n < 5) (hr : r < 128) :
    (∑ t ∈ Finset.range 640, q b h j t * (w b h t * qs (t / 128) b h) * realScore 320 d v b h t (128 * n + r)) * (vs ((128 * n + r) / 128) b h * f)
      = chunkK q v d w qs vs f b h n r j := by
  rw [sum_chunks, split_high _ hn fun i hi => Finset.sum_eq_zero fun c hc => by
    rw [realScore, if_neg (by have := Finset.mem_range.mp hc; omega), mul_zero]]
  unfold chunkK
  rw [add_mul, add_mul, show (128 * n + r) / 128 = n by omega]
  congr 1
  · rw [← mul_assoc]
    congr 1
    refine Eq.trans ?_ ((real_cross 320 (Finset.Ico (n + 1) 5) (fun e => v b h e (128 * n + r)) (vs n b h) (fun i c => q b h j (128 * i + c))
      (fun i c => w b h (128 * i + c) * qs i b h) (fun e i c => d b h e (128 * i + c))).symm.trans ?_)
    · congr 1
      refine Finset.sum_congr rfl fun i hi => Finset.sum_congr rfl fun c hc => ?_
      have hi := Finset.mem_Ico.mp hi
      have hc := Finset.mem_range.mp hc
      rw [realScore, if_pos (by omega), show (128 * i + c) / 128 = i by omega]
      exact congrArg _ (Finset.sum_congr rfl fun e _ => mul_comm _ _)
    · refine Finset.sum_congr rfl fun e _ => congrArg _ (Finset.sum_congr rfl fun i _ => ?_)
      rw [stepW]
      exact Finset.sum_congr rfl fun c _ => by ring
  · rw [← mul_assoc]
    congr 1
    rw [Finset.sum_mul]
    refine Finset.sum_congr rfl fun c hc => ?_
    have hc := Finset.mem_range.mp hc
    rw [realScore, scoreA, show (128 * n + c) / 128 = n by omega]
    by_cases hle : r ≤ c
    · rw [if_pos hle, if_pos (by omega)]
      ring
    · rw [if_neg hle, if_neg (by omega)]
      ring

theorem real_V (b h n r j : ℕ) (hn : n < 5) (hr : r < 128) :
    (∑ t ∈ Finset.range 640, d b h j t * (w b h t * qs (t / 128) b h) * realScore 160 q k b h t (128 * n + r)) * (ks ((128 * n + r) / 128) b h * f)
      = chunkV q k d w qs ks f b h n r j := by
  rw [sum_chunks, split_high _ hn fun i hi => Finset.sum_eq_zero fun c hc => by
    rw [realScore, if_neg (by have := Finset.mem_range.mp hc; omega), mul_zero]]
  unfold chunkV
  rw [add_mul, add_mul, show (128 * n + r) / 128 = n by omega]
  congr 1
  · rw [← mul_assoc]
    congr 1
    refine Eq.trans ?_ ((real_cross 160 (Finset.Ico (n + 1) 5) (fun e => k b h e (128 * n + r)) (ks n b h) (fun i c => d b h j (128 * i + c))
      (fun i c => w b h (128 * i + c) * qs i b h) (fun e i c => q b h e (128 * i + c))).symm.trans ?_)
    · congr 1
      refine Finset.sum_congr rfl fun i hi => Finset.sum_congr rfl fun c hc => ?_
      have hi := Finset.mem_Ico.mp hi
      have hc := Finset.mem_range.mp hc
      rw [realScore, if_pos (by omega), show (128 * i + c) / 128 = i by omega]
      exact congrArg _ (Finset.sum_congr rfl fun e _ => mul_comm _ _)
    · refine Finset.sum_congr rfl fun e _ => congrArg _ (Finset.sum_congr rfl fun i _ => ?_)
      rw [stepW]
      exact Finset.sum_congr rfl fun c _ => by ring
  · rw [← mul_assoc]
    congr 1
    rw [Finset.sum_mul]
    refine Finset.sum_congr rfl fun c hc => ?_
    have hc := Finset.mem_range.mp hc
    rw [realScore, scoreP, show (128 * n + c) / 128 = n by omega]
    by_cases hle : r ≤ c
    · rw [if_pos hle, if_pos (by omega)]
      ring
    · rw [if_neg hle, if_neg (by omega)]
      ring

end

/-! ## Over extended reals that are real -/

theorem coe_sum (s : Finset ℕ) (F : ℕ → ℝ) : ((∑ i ∈ s, F i : ℝ) : EReal) = ∑ i ∈ s, (F i : EReal) := by
  induction s using Finset.cons_induction with
  | empty => simp
  | cons a s ha ih => rw [Finset.sum_cons, Finset.sum_cons, EReal.coe_add, ih]

theorem coe_ite (p : Prop) [Decidable p] (x : ℝ) : ((if p then x else 0 : ℝ) : EReal) = if p then (x : EReal) else 0 := by
  split <;> simp

/-- A pattern whose exponent is not all ones denotes a real number. -/
theorem ieee_real (e m : ℕ) {w : ℕ} (b : BitVec w) (h : (b.extractLsb' m e).toNat ≠ 2 ^ e - 1) : ∃ x : ℝ, Ideal.ieee e m b = (x : EReal) := by
  unfold Ideal.ieee
  dsimp only
  rw [if_neg h]
  split
  · exact ⟨_, rfl⟩
  · exact ⟨_, rfl⟩

/-- The scaling factor is a real number. -/
theorem factor_real : ∃ f : ℝ, factor = (f : EReal) := ieee_real 8 23 0x3DA1E89B#32 (by decide)

section
variable {Q K V D : ℕ → ℕ → ℕ → ℕ → EReal} {W qs ks vs : ℕ → ℕ → ℕ → EReal}

/-- A function of four numbers whose values are real. -/
def Real4 (X : ℕ → ℕ → ℕ → ℕ → EReal) : Prop := ∃ x : ℕ → ℕ → ℕ → ℕ → ℝ, X = fun b h e t => (x b h e t : EReal)

/-- A function of three numbers whose values are real. -/
def Real3 (X : ℕ → ℕ → ℕ → EReal) : Prop := ∃ x : ℕ → ℕ → ℕ → ℝ, X = fun b h t => (x b h t : EReal)

theorem wholeQ_eq (hK : Real4 K) (hV : Real4 V) (hD : Real4 D) (hW : Real3 W) (hks : Real3 ks) (hvs : Real3 vs) (b h n r j : ℕ) (hn : n < 5) (hr : r < 128) :
    wholeQ K V D W ks vs b h j (128 * n + r) = chunkQ K V D W ks vs factor b h n r j := by
  obtain ⟨k, rfl⟩ := hK
  obtain ⟨v, rfl⟩ := hV
  obtain ⟨d, rfl⟩ := hD
  obtain ⟨w, rfl⟩ := hW
  obtain ⟨k', rfl⟩ := hks
  obtain ⟨v', rfl⟩ := hvs
  obtain ⟨f, hf⟩ := factor_real
  have e := congrArg (Real.toEReal) (real_Q k v d w k' v' f b h n r j hn hr)
  simpa only [wholeQ, wholeScore, realScore, chunkQ, stateU, stepU, scoreA, coe_sum, coe_ite, EReal.coe_mul, EReal.coe_add, hf] using e

theorem wholeK_eq (hQ : Real4 Q) (hV : Real4 V) (hD : Real4 D) (hW : Real3 W) (hqs : Real3 qs) (hvs : Real3 vs) (b h n r j : ℕ) (hn : n < 5) (hr : r < 128) :
    wholeK Q V D W qs vs b h j (128 * n + r) = chunkK Q V D W qs vs factor b h n r j := by
  obtain ⟨q, rfl⟩ := hQ
  obtain ⟨v, rfl⟩ := hV
  obtain ⟨d, rfl⟩ := hD
  obtain ⟨w, rfl⟩ := hW
  obtain ⟨q', rfl⟩ := hqs
  obtain ⟨v', rfl⟩ := hvs
  obtain ⟨f, hf⟩ := factor_real
  have e := congrArg (Real.toEReal) (real_K q v d w q' v' f b h n r j hn hr)
  simpa only [wholeK, wholeScore, realScore, chunkK, stateW, stepW, scoreA, coe_sum, coe_ite, EReal.coe_mul, EReal.coe_add, hf] using e

theorem wholeV_eq (hQ : Real4 Q) (hK : Real4 K) (hD : Real4 D) (hW : Real3 W) (hqs : Real3 qs) (hks : Real3 ks) (b h n r j : ℕ) (hn : n < 5) (hr : r < 128) :
    wholeV Q K D W qs ks b h j (128 * n + r) = chunkV Q K D W qs ks factor b h n r j := by
  obtain ⟨q, rfl⟩ := hQ
  obtain ⟨k, rfl⟩ := hK
  obtain ⟨d, rfl⟩ := hD
  obtain ⟨w, rfl⟩ := hW
  obtain ⟨q', rfl⟩ := hqs
  obtain ⟨k', rfl⟩ := hks
  obtain ⟨f, hf⟩ := factor_real
  have e := congrArg (Real.toEReal) (real_V q k d w q' k' f b h n r j hn hr)
  simpa only [wholeV, wholeScore, realScore, chunkV, stateW, stepW, scoreP, coe_sum, coe_ite, EReal.coe_mul, EReal.coe_add, hf] using e

end

end Cert.Value

end
-- ==== Proof.Running.lean ====
/-
  Running sums over the five chunks. A host sum over a window of five, padded by four below, is the sum over a chunk and the ones before it; padded by four
  above, the sum over a chunk and the ones after it.
-/
module

public import Idealize.ShloMosaic.PureOps.Ideal.Laws
public import Idealize.ShloMosaic.Lib.ValueIdx

@[expose] public section

noncomputable section

namespace Cert.Value

open Idealize.ShloMosaic
open scoped BigOperators

/-- The shape of a window: five chunks, one of everything else. -/
abbrev Win5 : Shape := ⟨5, ![1, 1, 5, 1, 1]⟩

theorem numel_win : Win5.numel = 5 := by decide

theorem place_win : ∀ (n : Fin Win5.numel) (a : Fin 5), (Win5.rowMajor.symm n a).val = if a = 2 then n.val else 0 := by decide +kernel

theorem foldl_sum {n : ℕ} (f : Fin n → EReal) (v : EReal) : (List.finRange n).foldl (fun r i => r + f i) v = v + ∑ i, f i := by
  rw [← List.sum_ofFn, ← List.foldl_map (f := f) (g := (· + ·)), List.ofFn_eq_map]
  generalize (List.finRange n).map f = l
  induction l generalizing v with
  | nil => simp
  | cons a l ih => rw [List.foldl_cons, ih, List.sum_cons, add_assoc]

variable {n0 n1 n3 n4 : ℕ} (x : (⟨5, ![n0, n1, 5, n3, n4]⟩ : Shape).Idx → EReal) (g : ℕ → ℕ → ℕ → ℕ → ℕ → EReal)
  (hx : ∀ i, x i = g (i 0).val (i 1).val (i 2).val (i 3).val (i 4).val)
include hx

/-- The sum over a chunk and the ones before it. -/
theorem running_forward (h : Shape.ReduceWindows ⟨5, ![n0, n1, 5, n3, n4]⟩ ![1, 1, 5, 1, 1] ![1, 1, 1, 1, 1] ![0, 0, 4, 0, 0] ![0, 0, 0, 0, 0] ⟨5, ![n0, n1, 5, n3, n4]⟩)
    {u : Shape} (hu : 0 < u.numel) (j : (⟨5, ![n0, n1, 5, n3, n4]⟩ : Shape).Idx) :
    Host.reduceWindow (t := ⟨5, ![n0, n1, 5, n3, n4]⟩) (· + ·) ![1, 1, 5, 1, 1] ![1, 1, 1, 1, 1] ![0, 0, 4, 0, 0] ![0, 0, 0, 0, 0] x (fun _ : u.Idx => 0) h hu j
      = ∑ n ∈ Finset.range ((j 2).val + 1), g (j 0).val (j 1).val n (j 3).val (j 4).val := by
  unfold Host.reduceWindow
  refine (foldl_sum (n := Win5.numel) _ _).trans ?_
  rw [zero_add]
  have key : ∀ n : Fin Win5.numel, (if hin : ∀ a : Fin 5, (![0, 0, 4, 0, 0] : Fin 5 → ℕ) a ≤ (j a).val * (![1, 1, 1, 1, 1] : Fin 5 → ℕ) a + (Win5.rowMajor.symm n a).val
        ∧ (j a).val * (![1, 1, 1, 1, 1] : Fin 5 → ℕ) a + (Win5.rowMajor.symm n a).val - (![0, 0, 4, 0, 0] : Fin 5 → ℕ) a < (![n0, n1, 5, n3, n4] : Fin 5 → ℕ) a
      then x (fun a => ⟨(j a).val * (![1, 1, 1, 1, 1] : Fin 5 → ℕ) a + (Win5.rowMajor.symm n a).val - (![0, 0, 4, 0, 0] : Fin 5 → ℕ) a, (hin a).2⟩) else 0)
      = if 4 ≤ (j 2).val + n.val then g (j 0).val (j 1).val ((j 2).val + n.val - 4) (j 3).val (j 4).val else 0 := by
    intro n
    have hn : n.val < 5 := n.isLt.trans_eq numel_win
    have h2 : (j 2).val < 5 := (j 2).isLt
    have h0 : (j 0).val < n0 := (j 0).isLt
    have h1 : (j 1).val < n1 := (j 1).isLt
    have h3 : (j 3).val < n3 := (j 3).isLt
    have h4 : (j 4).val < n4 := (j 4).isLt
    simp only [place_win]
    by_cases hc : 4 ≤ (j 2).val + n.val
    · rw [if_pos hc, dif_pos (by
        intro a
        fin_cases a <;> simp <;> first | assumption | omega)]
      rw [hx]
      simp
    · rw [if_neg hc, dif_neg (by
        intro hin
        have := (hin 2).1
        simp at this
        omega)]
  refine (Finset.sum_congr rfl fun n _ => key n).trans ?_
  have h2 : (j 2).val < 5 := (j 2).isLt
  rw [Finset.sum_fin_eq_sum_range, numel_win]
  generalize (j 2).val = k at h2 ⊢
  interval_cases k <;> simp [Finset.sum_range_succ, numel_win]

/-- The sum over a chunk and the ones after it. -/
theorem running_backward (h : Shape.ReduceWindows ⟨5, ![n0, n1, 5, n3, n4]⟩ ![1, 1, 5, 1, 1] ![1, 1, 1, 1, 1] ![0, 0, 0, 0, 0] ![0, 0, 4, 0, 0] ⟨5, ![n0, n1, 5, n3, n4]⟩)
    {u : Shape} (hu : 0 < u.numel) (j : (⟨5, ![n0, n1, 5, n3, n4]⟩ : Shape).Idx) :
    Host.reduceWindow (t := ⟨5, ![n0, n1, 5, n3, n4]⟩) (· + ·) ![1, 1, 5, 1, 1] ![1, 1, 1, 1, 1] ![0, 0, 0, 0, 0] ![0, 0, 4, 0, 0] x (fun _ : u.Idx => 0) h hu j
      = ∑ n ∈ Finset.Ico (j 2).val 5, g (j 0).val (j 1).val n (j 3).val (j 4).val := by
  unfold Host.reduceWindow
  refine (foldl_sum (n := Win5.numel) _ _).trans ?_
  rw [zero_add]
  have key : ∀ n : Fin Win5.numel, (if hin : ∀ a : Fin 5, (![0, 0, 0, 0, 0] : Fin 5 → ℕ) a ≤ (j a).val * (![1, 1, 1, 1, 1] : Fin 5 → ℕ) a + (Win5.rowMajor.symm n a).val
        ∧ (j a).val * (![1, 1, 1, 1, 1] : Fin 5 → ℕ) a + (Win5.rowMajor.symm n a).val - (![0, 0, 0, 0, 0] : Fin 5 → ℕ) a < (![n0, n1, 5, n3, n4] : Fin 5 → ℕ) a
      then x (fun a => ⟨(j a).val * (![1, 1, 1, 1, 1] : Fin 5 → ℕ) a + (Win5.rowMajor.symm n a).val - (![0, 0, 0, 0, 0] : Fin 5 → ℕ) a, (hin a).2⟩) else 0)
      = if (j 2).val + n.val < 5 then g (j 0).val (j 1).val ((j 2).val + n.val) (j 3).val (j 4).val else 0 := by
    intro n
    have hn : n.val < 5 := n.isLt.trans_eq numel_win
    have h2 : (j 2).val < 5 := (j 2).isLt
    have h0 : (j 0).val < n0 := (j 0).isLt
    have h1 : (j 1).val < n1 := (j 1).isLt
    have h3 : (j 3).val < n3 := (j 3).isLt
    have h4 : (j 4).val < n4 := (j 4).isLt
    simp only [place_win]
    by_cases hc : (j 2).val + n.val < 5
    · rw [if_pos hc, dif_pos (by
        intro a
        fin_cases a <;> simp <;> first | assumption | omega)]
      rw [hx]
      simp
    · rw [if_neg hc, dif_neg (by
        intro hin
        have := (hin 2).2
        simp at this
        omega)]
  refine (Finset.sum_congr rfl fun n _ => key n).trans ?_
  have h2 : (j 2).val < 5 := (j 2).isLt
  rw [Finset.sum_fin_eq_sum_range, numel_win]
  generalize (j 2).val = k at h2 ⊢
  interval_cases k <;> simp [Finset.sum_range_succ, Finset.sum_Ico_eq_sum_range, numel_win]

end Cert.Value

end
-- ==== Proof.RefRead.lean ====
/-
  The reference's host operations read at an index, as functions of natural numbers: the scaled inputs, the chunk states, the masked scores and the three
  results, which are the chunked gradients.
-/
module

public import proofs.«01_k».proof.Proof.Chunked
public import proofs.«01_k».proof.Proof.Running
public import proofs.«01_k».proof.Proof.Gen.ReferenceIdeal.Read

@[expose] public section

set_option maxRecDepth 16384

noncomputable section

namespace Cert.ReferenceIdeal.Read

open Cert.ReferenceIdeal Cert.ReferenceIdeal.Gen Cert.Value Idealize.ShloMosaic Idealize.ShloMosaic.TcCoe
open scoped BigOperators

theorem congr4 {α : Type} (X : ℕ → ℕ → ℕ → ℕ → α) {a b c d a' b' c' d' : ℕ} (ha : a = a') (hb : b = b') (hc : c = c') (hd : d = d') :
    X a b c d = X a' b' c' d' := by
  subst ha hb hc hd
  rfl

theorem congr3 {α : Type} (X : ℕ → ℕ → ℕ → α) {a b c a' b' c' : ℕ} (ha : a = a') (hb : b = b') (hc : c = c') : X a b c = X a' b' c' := by
  subst ha hb hc
  rfl

variable {Q K V D : ℕ → ℕ → ℕ → ℕ → EReal} {W qs ks vs : ℕ → ℕ → ℕ → EReal}
  {x4 x5 x6 : (⟨S3x20x5, .f32⟩ : BufTy).Contents (Elt Ideal)} {x7 : (⟨S3x20x640, .f32⟩ : BufTy).Contents (Elt Ideal)}
  {r0 r1 : (⟨S3x20x640x160, .bf16⟩ : BufTy).Contents (Elt Ideal)} {r2 r3 : (⟨S3x20x640x320, .bf16⟩ : BufTy).Contents (Elt Ideal)}
  (hQ : ∀ y, (r0 y : EReal) = Q (y 0).val (y 1).val (y 3).val (y 2).val) (hK : ∀ y, (r1 y : EReal) = K (y 0).val (y 1).val (y 3).val (y 2).val)
  (hV : ∀ y, (r2 y : EReal) = V (y 0).val (y 1).val (y 3).val (y 2).val) (hD : ∀ y, (r3 y : EReal) = D (y 0).val (y 1).val (y 3).val (y 2).val)
  (hqs : ∀ y, (x4 y : EReal) = qs (y 2).val (y 0).val (y 1).val) (hks : ∀ y, (x5 y : EReal) = ks (y 2).val (y 0).val (y 1).val)
  (hvs : ∀ y, (x6 y : EReal) = vs (y 2).val (y 0).val (y 1).val) (hW : ∀ y, (x7 y : EReal) = W (y 0).val (y 1).val (y 2).val)

/-! ## Inputs by chunk -/

include hQ in
theorem read_v5 (i : S3x20x5x128x160.Idx) : (val_main_v5 (F := Ideal) r0 i : EReal) = Q (i 0).val (i 1).val (i 4).val (128 * (i 2).val + (i 3).val) := by
  have h0 : (i 0).val < 3 := (i 0).isLt
  have h1 : (i 1).val < 20 := (i 1).isLt
  have h2 : (i 2).val < 5 := (i 2).isLt
  have h3 : (i 3).val < 128 := (i 3).isLt
  have h4 : (i 4).val < 160 := (i 4).isLt
  rw [val_main_v5_apply]
  refine (hQ _).trans (congr4 Q ?_ ?_ ?_ ?_)
  · show (((((i 0).val * 20 + (i 1).val) * 5 + (i 2).val) * 128 + (i 3).val) * 160 + (i 4).val) / 2048000 = _
    omega
  · show (((((i 0).val * 20 + (i 1).val) * 5 + (i 2).val) * 128 + (i 3).val) * 160 + (i 4).val) / 102400 % 20 = _
    omega
  · show (((((i 0).val * 20 + (i 1).val) * 5 + (i 2).val) * 128 + (i 3).val) * 160 + (i 4).val) % 160 = _
    omega
  · show (((((i 0).val * 20 + (i 1).val) * 5 + (i 2).val) * 128 + (i 3).val) * 160 + (i 4).val) / 160 % 640 = _
    omega

include hK in
theorem read_v6 (i : S3x20x5x128x160.Idx) : (val_main_v6 (F := Ideal) r1 i : EReal) = K (i 0).val (i 1).val (i 4).val (128 * (i 2).val + (i 3).val) :=
  read_v5 hK i

include hV in
theorem read_v7 (i : S3x20x5x128x320.Idx) : (val_main_v7 (F := Ideal) r2 i : EReal) = V (i 0).val (i 1).val (i 4).val (128 * (i 2).val + (i 3).val) := by
  have h0 : (i 0).val < 3 := (i 0).isLt
  have h1 : (i 1).val < 20 := (i 1).isLt
  have h2 : (i 2).val < 5 := (i 2).isLt
  have h3 : (i 3).val < 128 := (i 3).isLt
  have h4 : (i 4).val < 320 := (i 4).isLt
  rw [val_main_v7_apply]
  refine (hV _).trans (congr4 V ?_ ?_ ?_ ?_)
  · show (((((i 0).val * 20 + (i 1).val) * 5 + (i 2).val) * 128 + (i 3).val) * 320 + (i 4).val) / 4096000 = _
    omega
  · show (((((i 0).val * 20 + (i 1).val) * 5 + (i 2).val) * 128 + (i 3).val) * 320 + (i 4).val) / 204800 % 20 = _
    omega
  · show (((((i 0).val * 20 + (i 1).val) * 5 + (i 2).val) * 128 + (i 3).val) * 320 + (i 4).val) % 320 = _
    omega
  · show (((((i 0).val * 20 + (i 1).val) * 5 + (i 2).val) * 128 + (i 3).val) * 320 + (i 4).val) / 320 % 640 = _
    omega

include hD in
theorem read_v8 (i : S3x20x5x128x320.Idx) : (val_main_v8 (F := Ideal) r3 i : EReal) = D (i 0).val (i 1).val (i 4).val (128 * (i 2).val + (i 3).val) :=
  read_v7 hD i

include hW in
theorem read_v9 (i : S3x20x5x128.Idx) : (val_main_v9 (F := Ideal) x7 i : EReal) = W (i 0).val (i 1).val (128 * (i 2).val + (i 3).val) := by
  have h0 : (i 0).val < 3 := (i 0).isLt
  have h1 : (i 1).val < 20 := (i 1).isLt
  have h2 : (i 2).val < 5 := (i 2).isLt
  have h3 : (i 3).val < 128 := (i 3).isLt
  rw [val_main_v9_apply]
  refine (hW _).trans (congr3 W ?_ ?_ ?_)
  · show ((((i 0).val * 20 + (i 1).val) * 5 + (i 2).val) * 128 + (i 3).val) / 12800 = _
    omega
  · show ((((i 0).val * 20 + (i 1).val) * 5 + (i 2).val) * 128 + (i 3).val) / 640 % 20 = _
    omega
  · show ((((i 0).val * 20 + (i 1).val) * 5 + (i 2).val) * 128 + (i 3).val) % 640 = _
    omega

/-! ## Scaled inputs -/

include hQ hqs in
theorem read_v13 (i : S3x20x5x128x160.Idx) :
    (val_main_v13 (F := Ideal) x4 r0 i : EReal) = Q (i 0).val (i 1).val (i 4).val (128 * (i 2).val + (i 3).val) * qs (i 2).val (i 0).val (i 1).val := by
  rw [val_main_v13_apply, val_main_v12_apply, val_main_v11_apply, val_main_v10_apply]
  exact congrArg₂ (· * ·) (read_v5 hQ i) (hqs _)

include hK hks in
theorem read_v17 (i : S3x20x5x128x160.Idx) :
    (val_main_v17 (F := Ideal) x5 r1 i : EReal) = K (i 0).val (i 1).val (i 4).val (128 * (i 2).val + (i 3).val) * ks (i 2).val (i 0).val (i 1).val := by
  rw [val_main_v17_apply, val_main_v16_apply, val_main_v15_apply, val_main_v14_apply]
  exact congrArg₂ (· * ·) (read_v6 hK i) (hks _)

include hV hvs in
theorem read_v21 (i : S3x20x5x128x320.Idx) :
    (val_main_v21 (F := Ideal) x6 r2 i : EReal) = V (i 0).val (i 1).val (i 4).val (128 * (i 2).val + (i 3).val) * vs (i 2).val (i 0).val (i 1).val := by
  rw [val_main_v21_apply, val_main_v20_apply, val_main_v19_apply, val_main_v18_apply]
  exact congrArg₂ (· * ·) (read_v7 hV i) (hvs _)

include hD hW in
theorem read_v25 (i : S3x20x5x128x320.Idx) :
    (val_main_v25 (F := Ideal) x7 r3 i : EReal)
      = D (i 0).val (i 1).val (i 4).val (128 * (i 2).val + (i 3).val) * W (i 0).val (i 1).val (128 * (i 2).val + (i 3).val) := by
  rw [val_main_v25_apply, val_main_v24_apply, val_main_v23_apply, val_main_v22_apply]
  exact congrArg₂ (· * ·) (read_v8 hD i) (read_v9 hW _)

/-! ## States -/

include hK hV hks hvs in
theorem read_v30 (i : S3x20x5x160x320.Idx) :
    (val_main_v30 (F := Ideal) x5 x6 r1 r2 i : EReal) = stepU K V ks vs (i 0).val (i 1).val (i 2).val (i 3).val (i 4).val := by
  rw [val_main_v30_apply, val_main_v26_apply, val_main_v29_apply, val_main_v28_apply, val_main_v27_apply, stepU, Finset.sum_range]
  exact congrArg₂ (· * ·) (Finset.sum_congr rfl fun k _ => congrArg₂ (· * ·) (read_v6 hK _) (read_v7 hV _)) (congrArg₂ (· * ·) (hks _) (hvs _))

include hQ hD hqs hW in
theorem read_v31 (i : S3x20x5x160x320.Idx) :
    (val_main_v31 (F := Ideal) x4 x7 r0 r3 i : EReal) = stepW Q D W qs (i 0).val (i 1).val (i 2).val (i 3).val (i 4).val := by
  rw [val_main_v31_apply, stepW, Finset.sum_range]
  exact Finset.sum_congr rfl fun k _ => congrArg₂ (· * ·) (read_v13 hQ hqs _) (read_v25 hD hW _)

/-- The zero a host constant denotes. -/
theorem zero_scalar : (val_main_call0_call0_v0 (F := Ideal) : S_.Idx → EReal) = fun _ => 0 := by
  funext i
  rw [val_main_call0_call0_v0_apply, val_main_call0_call0_cst_apply]
  exact Ideal.ofBits_zero_f32

include hK hV hks hvs in
theorem read_v32 (i : S3x20x5x160x320.Idx) :
    (val_main_v32 (F := Ideal) x5 x6 r1 r2 i : EReal) = ∑ n ∈ Finset.range ((i 2).val + 1), stepU K V ks vs (i 0).val (i 1).val n (i 3).val (i 4).val := by
  unfold val_main_v32
  have e := running_forward (val_main_v30 (F := Ideal) x5 x6 r1 r2) (fun b h n d e => stepU K V ks vs b h n d e) (read_v30 hK hV hks hvs)
    reduceWindows_S3x20x5x160x320_S3x20x5x160x320_w1s1p0_0_w1s1p0_0_w5s1p4_0_w1s1p0_0_w1s1p0_0 h_S_ i
  rw [← zero_scalar] at e
  exact e

include hQ hD hqs hW in
theorem read_v38 (i : S3x20x5x160x320.Idx) :
    (val_main_v38 (F := Ideal) x4 x7 r0 r3 i : EReal) = ∑ n ∈ Finset.Ico (i 2).val 5, stepW Q D W qs (i 0).val (i 1).val n (i 3).val (i 4).val := by
  unfold val_main_v38
  have e := running_backward (val_main_v31 (F := Ideal) x4 x7 r0 r3) (fun b h n d e => stepW Q D W qs b h n d e) (read_v31 hQ hD hqs hW)
    reduceWindows_S3x20x5x160x320_S3x20x5x160x320_w1s1p0_0_w1s1p0_0_w5s1p0_4_w1s1p0_0_w1s1p0_0 h_S_ i
  rw [← zero_scalar] at e
  exact e

include hK hV hks hvs in
theorem read_v37 (i : S3x20x5x160x320.Idx) :
    (val_main_v37 (F := Ideal) x5 x6 r1 r2 i : EReal) = stateU K V ks vs (i 0).val (i 1).val (i 2).val (i 3).val (i 4).val := by
  rw [val_main_v37_apply]
  refine Eq.trans (b := (val_main_v36 (F := Ideal) x5 x6 r1 r2 i : EReal)) rfl ?_
  unfold val_main_v36
  have h2 : (i 2).val < 5 := (i 2).isLt
  by_cases hz : (i 2).val = 0
  · rw [concatenate_pair_apply_left (s₁ := S3x20x1x160x320) (s₂ := S3x20x4x160x320) (t := S3x20x5x160x320) 2 _ _ _ i rfl
      (ValueIdx.ix5 (i 0) (i 1) ⟨0, Nat.one_pos⟩ (i 3) (i 4)) (fun a => by fin_cases a <;> first | rfl | exact hz.symm)]
    rw [val_main_v34_apply, val_main_cst_apply, hz]
    exact Ideal.ofBits_zero_f32
  · rw [concatenate_pair_apply_right (s₁ := S3x20x1x160x320) (s₂ := S3x20x4x160x320) (t := S3x20x5x160x320) 2 _ _ _ i rfl rfl
      (ValueIdx.ix5 (i 0) (i 1) ⟨(i 2).val - 1, by omega⟩ (i 3) (i 4)) (fun a ha => by fin_cases a <;> first | rfl | exact absurd rfl ha)
      (show (i 2).val - 1 + 1 = (i 2).val by omega)]
    rw [val_main_v35_apply]
    refine (read_v32 hK hV hks hvs _).trans ?_
    unfold stateU
    exact Finset.sum_congr (congrArg Finset.range (show (i 2).val - 1 + 1 = (i 2).val by omega)) fun n _ => rfl

include hQ hD hqs hW in
theorem read_v43 (i : S3x20x5x160x320.Idx) :
    (val_main_v43 (F := Ideal) x4 x7 r0 r3 i : EReal) = stateW Q D W qs (i 0).val (i 1).val (i 2).val (i 3).val (i 4).val := by
  rw [val_main_v43_apply]
  refine Eq.trans (b := (val_main_v42 (F := Ideal) x4 x7 r0 r3 i : EReal)) rfl ?_
  unfold val_main_v42
  have h2 : (i 2).val < 5 := (i 2).isLt
  by_cases hz : (i 2).val < 4
  · rw [concatenate_pair_apply_left (s₁ := S3x20x4x160x320) (s₂ := S3x20x1x160x320) (t := S3x20x5x160x320) 2 _ _ _ i rfl
      (ValueIdx.ix5 (i 0) (i 1) ⟨(i 2).val, hz⟩ (i 3) (i 4)) (fun a => by fin_cases a <;> rfl)]
    rw [val_main_v39_apply]
    refine (read_v38 hQ hD hqs hW _).trans ?_
    unfold stateW
    exact Finset.sum_congr (congrArg (Finset.Ico · 5) (show 1 + (i 2).val = (i 2).val + 1 by omega)) fun n _ => rfl
  · rw [concatenate_pair_apply_right (s₁ := S3x20x4x160x320) (s₂ := S3x20x1x160x320) (t := S3x20x5x160x320) 2 _ _ _ i rfl rfl
      (ValueIdx.ix5 (i 0) (i 1) ⟨0, Nat.one_pos⟩ (i 3) (i 4)) (fun a ha => by fin_cases a <;> first | rfl | exact absurd rfl ha)
      (show 0 + 4 = (i 2).val by omega)]
    rw [val_main_v41_apply, val_main_cst_0_apply, stateW, show (i 2).val = 4 by omega, Finset.Ico_self, Finset.sum_empty]
    exact Ideal.ofBits_zero_f32

/-! ## Masked scores -/

theorem mask_word : ∀ t s : Fin 128, IntOp.cmpi .sge (IntOp.addi (BitVec.ofNat 32 t.val) 0#32) (BitVec.ofNat 32 s.val) = if s.val ≤ t.val then 1#1 else 0#1 := by
  decide +kernel

/-- The mask is set where the column is at most the row. -/
theorem read_v45 (i : S128x128.Idx) : val_main_v45 (F := Ideal) i = if (i 1).val ≤ (i 0).val then 1#1 else 0#1 := by
  rw [val_main_v45_apply, val_main_call2_v4_apply, val_main_call2_v2_apply, val_main_call2_v0_apply, val_main_call2_v1_apply, val_main_call2_c_apply,
    val_main_call2_v3_apply, val_main_v44_apply, val_main_c_apply, val_main_call2_v5_apply, val_main_call2_c_0_apply]
  have e := mask_word (i 0) (i 1)
  refine (congrArg (fun z => Scalar.select z 1#1 0#1) e).trans ?_
  by_cases hle : (i 1).val ≤ (i 0).val
  · rw [if_pos hle]
    rfl
  · rw [if_neg hle]
    rfl

theorem select_if (p : Prop) [Decidable p] (x y : EReal) : Scalar.select (if p then 1#1 else 0#1) x y = if p then x else y := by
  by_cases h : p
  · rw [if_pos h, if_pos h]
    rfl
  · rw [if_neg h, if_neg h]
    rfl

include hV hD hvs hW in
theorem read_v54 (i : S3x20x5x128x128.Idx) :
    (val_main_v54 (F := Ideal) x6 x7 r2 r3 i : EReal) = scoreA V D W vs (i 0).val (i 1).val (i 2).val (i 3).val (i 4).val := by
  rw [val_main_v54_apply, val_main_v53_apply, val_main_call3_v1_apply, read_v45, val_main_call3_v2_apply, val_main_call3_v0_apply, val_main_cst_1_apply,
    val_main_v52_apply, val_main_v46_apply, val_main_v51_apply, val_main_v50_apply, val_main_v47_apply, val_main_v49_apply, val_main_v48_apply]
  refine (select_if _ _ _).trans ?_
  rw [scoreA, Finset.sum_range]
  exact congrArg₂ (fun x y => if (i 4).val ≤ (i 3).val then x else y) (congrArg₂ (· * ·)
    (Finset.sum_congr rfl fun k _ => congrArg₂ (· * ·) (read_v8 hD _) (read_v7 hV _)) (congrArg₂ (· * ·) (read_v9 hW _) (hvs _))) Ideal.ofBits_zero_f32

include hQ hK hqs hks in
theorem read_v61 (i : S3x20x5x128x128.Idx) :
    (val_main_v61 (F := Ideal) x4 x5 r0 r1 i : EReal) = scoreP Q K qs ks (i 0).val (i 1).val (i 2).val (i 3).val (i 4).val := by
  rw [val_main_v61_apply, val_main_v60_apply, val_main_call4_v1_apply, read_v45, val_main_call4_v2_apply, val_main_call4_v0_apply, val_main_cst_2_apply,
    val_main_v59_apply, val_main_v55_apply, val_main_v58_apply, val_main_v57_apply, val_main_v56_apply]
  refine (select_if _ _ _).trans ?_
  rw [scoreP, Finset.sum_range]
  exact congrArg₂ (fun x y => if (i 4).val ≤ (i 3).val then x else y) (congrArg₂ (· * ·)
    (Finset.sum_congr rfl fun k _ => congrArg₂ (· * ·) (read_v5 hQ _) (read_v6 hK _)) (congrArg₂ (· * ·) (hqs _) (hks _))) Ideal.ofBits_zero_f32

/-! ## Results -/

include hK hV hD hW hks hvs in
theorem read_v66 (i : S3x20x5x128x160.Idx) :
    (val_main_v66 (F := Ideal) x5 x6 x7 r1 r2 r3 i : EReal) = chunkQ K V D W ks vs factor (i 0).val (i 1).val (i 2).val (i 3).val (i 4).val := by
  rw [val_main_v66_apply, val_main_v64_apply, val_main_v62_apply, val_main_v63_apply, val_main_v65_apply, val_main_cst_3_apply, chunkQ, Finset.sum_range,
    Finset.sum_range]
  exact congrArg (· * factor) (congrArg₂ (· + ·)
    (Finset.sum_congr rfl fun k _ => congrArg₂ (· * ·) (read_v25 hD hW _) (read_v37 hK hV hks hvs _))
    (Finset.sum_congr rfl fun k _ => congrArg₂ (· * ·) (read_v54 hV hD hvs hW _) (read_v17 hK hks _)))

include hQ hV hD hW hqs hvs in
theorem read_v71 (i : S3x20x5x128x160.Idx) :
    (val_main_v71 (F := Ideal) x4 x6 x7 r0 r2 r3 i : EReal) = chunkK Q V D W qs vs factor (i 0).val (i 1).val (i 2).val (i 3).val (i 4).val := by
  rw [val_main_v71_apply, val_main_v69_apply, val_main_v67_apply, val_main_v68_apply, val_main_v70_apply, val_main_cst_4_apply, chunkK, Finset.sum_range,
    Finset.sum_range]
  exact congrArg (· * factor) (congrArg₂ (· + ·)
    (Finset.sum_congr rfl fun k _ => congrArg₂ (· * ·) (read_v21 hV hvs _) (read_v43 hQ hD hqs hW _))
    (Finset.sum_congr rfl fun k _ => congrArg₂ (· * ·) (read_v54 hV hD hvs hW _) (read_v13 hQ hqs _)))

include hQ hK hD hW hqs hks in
theorem read_v76 (i : S3x20x5x128x320.Idx) :
    (val_main_v76 (F := Ideal) x4 x5 x7 r0 r1 r3 i : EReal) = chunkV Q K D W qs ks factor (i 0).val (i 1).val (i 2).val (i 3).val (i 4).val := by
  rw [val_main_v76_apply, val_main_v74_apply, val_main_v72_apply, val_main_v73_apply, val_main_v75_apply, val_main_cst_5_apply, chunkV, Finset.sum_range,
    Finset.sum_range]
  exact congrArg (· * factor) (congrArg₂ (· + ·)
    (Finset.sum_congr rfl fun k _ => congrArg₂ (· * ·) (read_v17 hK hks _) (read_v43 hQ hD hqs hW _))
    (Finset.sum_congr rfl fun k _ => congrArg₂ (· * ·) (read_v61 hQ hK hqs hks _) (read_v25 hD hW _)))

theorem congr5 {α : Type} (X : ℕ → ℕ → ℕ → ℕ → ℕ → α) {a b c d e a' b' c' d' e' : ℕ} (ha : a = a') (hb : b = b') (hc : c = c') (hd : d = d') (he : e = e') :
    X a b c d e = X a' b' c' d' e' := by
  subst ha hb hc hd he
  rfl

section
variable (F : ℕ → ℕ → ℕ → ℕ → ℕ → EReal)

/-- A result with 160 features, its chunks joined. -/
theorem joined_160 (X : S3x20x5x128x160.Idx → EReal) (hX : ∀ i, X i = F (i 0).val (i 1).val (i 2).val (i 3).val (i 4).val) (z : S3x20x640x160.Idx) :
    X (idx_main_v78 z) = F (z 0).val (z 1).val ((z 2).val / 128) ((z 2).val % 128) (z 3).val := by
  have h0 : (z 0).val < 3 := (z 0).isLt
  have h1 : (z 1).val < 20 := (z 1).isLt
  have h2 : (z 2).val < 640 := (z 2).isLt
  have h3 : (z 3).val < 160 := (z 3).isLt
  refine (hX _).trans (congr5 F ?_ ?_ ?_ ?_ ?_)
  · show ((((z 0).val * 20 + (z 1).val) * 640 + (z 2).val) * 160 + (z 3).val) / 2048000 = _
    omega
  · show ((((z 0).val * 20 + (z 1).val) * 640 + (z 2).val) * 160 + (z 3).val) / 102400 % 20 = _
    omega
  · show ((((z 0).val * 20 + (z 1).val) * 640 + (z 2).val) * 160 + (z 3).val) / 20480 % 5 = _
    omega
  · show ((((z 0).val * 20 + (z 1).val) * 640 + (z 2).val) * 160 + (z 3).val) / 160 % 128 = _
    omega
  · show ((((z 0).val * 20 + (z 1).val) * 640 + (z 2).val) * 160 + (z 3).val) % 160 = _
    omega

/-- A result with 320 features, its chunks joined. -/
theorem joined_320 (X : S3x20x5x128x320.Idx → EReal) (hX : ∀ i, X i = F (i 0).val (i 1).val (i 2).val (i 3).val (i 4).val) (z : S3x20x640x320.Idx) :
    X (idx_main_v82 z) = F (z 0).val (z 1).val ((z 2).val / 128) ((z 2).val % 128) (z 3).val := by
  have h0 : (z 0).val < 3 := (z 0).isLt
  have h1 : (z 1).val < 20 := (z 1).isLt
  have h2 : (z 2).val < 640 := (z 2).isLt
  have h3 : (z 3).val < 320 := (z 3).isLt
  refine (hX _).trans (congr5 F ?_ ?_ ?_ ?_ ?_)
  · show ((((z 0).val * 20 + (z 1).val) * 640 + (z 2).val) * 320 + (z 3).val) / 4096000 = _
    omega
  · show ((((z 0).val * 20 + (z 1).val) * 640 + (z 2).val) * 320 + (z 3).val) / 204800 % 20 = _
    omega
  · show ((((z 0).val * 20 + (z 1).val) * 640 + (z 2).val) * 320 + (z 3).val) / 40960 % 5 = _
    omega
  · show ((((z 0).val * 20 + (z 1).val) * 640 + (z 2).val) * 320 + (z 3).val) / 320 % 128 = _
    omega
  · show ((((z 0).val * 20 + (z 1).val) * 640 + (z 2).val) * 320 + (z 3).val) % 320 = _
    omega

end

include hK hV hD hW hks hvs in
theorem read_v78 (z : S3x20x640x160.Idx) :
    (val_main_v78 (F := Ideal) x5 x6 x7 r1 r2 r3 z : EReal)
      = chunkQ K V D W ks vs factor (z 0).val (z 1).val ((z 2).val / 128) ((z 2).val % 128) (z 3).val := by
  rw [val_main_v78_apply, val_main_v77_apply]
  exact joined_160 _ _ (read_v66 hK hV hD hks hvs hW) z

include hQ hV hD hW hqs hvs in
theorem read_v80 (z : S3x20x640x160.Idx) :
    (val_main_v80 (F := Ideal) x4 x6 x7 r0 r2 r3 z : EReal)
      = chunkK Q V D W qs vs factor (z 0).val (z 1).val ((z 2).val / 128) ((z 2).val % 128) (z 3).val := by
  rw [val_main_v80_apply, val_main_v79_apply]
  exact joined_160 _ _ (read_v71 hQ hV hD hqs hvs hW) z

include hQ hK hD hW hqs hks in
theorem read_v82 (z : S3x20x640x320.Idx) :
    (val_main_v82 (F := Ideal) x4 x5 x7 r0 r1 r3 z : EReal)
      = chunkV Q K D W qs ks factor (z 0).val (z 1).val ((z 2).val / 128) ((z 2).val % 128) (z 3).val := by
  rw [val_main_v82_apply, val_main_v81_apply]
  exact joined_320 _ _ (read_v76 hQ hK hD hqs hks hW) z

end Cert.ReferenceIdeal.Read

end
-- ==== Proof.RefRun.lean ====
/-
  The run of the reference: its kernel region leaves the inputs' values in the wider type, and its three results are the chunked gradients.
-/
module

public import proofs.«01_k».proof.Proof.RefRead
public import proofs.«01_k».proof.Proof.Gen.ReferenceIdeal.Frame
public import Idealize.ShloMosaic.Lib.Pipeline.ValueKit.Basic
public import Idealize.ShloMosaic.Lib.Pipeline.ValueKit.Geometry
public import Idealize.ShloMosaic.Lib.StableHlo.Run

@[expose] public section

set_option maxRecDepth 16384

noncomputable section

namespace Cert.ReferenceIdeal.Gen

open Cert.ReferenceIdeal Cert.Value Idealize.ShloMosaic Idealize.ShloMosaic.TcCoe Idealize.SL.Sem

variable (m : (ℓ : Loc nD τ sig) → Buf (Elt Ideal) ℓ) (c : Dev nD)

/-! ## What the region leaves -/

theorem entry_0 : (V m c main_v0 : S3x20x640x160.Idx → Elt Ideal .fp8e4m3) = bitcastToFloat (F := Ideal) .fp8e4m3 (m ((c : Thread nD τ).loc main_arg0)) := by
  show StableHlo.after hostOps0 _ (Proc.devRef .tc main_v0) = _
  after_results
  try rfl

theorem index_0 : ∀ t : Fin cfg0.N, win0_0.index t = ![0, 0, 0, 0] := (by decide +kernel : ∀ t : Fin grid0.N, _)

theorem index_4 : ∀ t : Fin cfg0.N, win0_4.index t = ![0, 0, 0, 0] := (by decide +kernel : ∀ t : Fin grid0.N, _)

theorem place_0 (t : Fin cfg0.N) (y : S3x20x640x160.Idx) : (win0_0.blk t).view.emb y = y := by
  funext a
  refine Fin.ext ((Pipeline.Window.rect_emb_val win0_0 t y a).trans ?_)
  rw [index_0]
  fin_cases a <;> exact (congrArg (· + _) (Nat.zero_mul _)).trans (Nat.zero_add _)

theorem place_4 (t : Fin cfg0.N) (y : S3x20x640x160.Idx) : (win0_4.blk t).view.emb y = y := by
  funext a
  refine Fin.ext ((Pipeline.Window.rect_emb_val win0_4 t y a).trans ?_)
  rw [index_4]
  fin_cases a <;> exact (congrArg (· + _) (Nat.zero_mul _)).trans (Nat.zero_add _)

theorem stored_0 (x0 x1 : Vec Ideal S3x20x640x160 .fp8e4m3) (x2 : Vec Ideal S3x20x640x320 .fp8e4m3) (x3 : Vec Ideal S3x20x640x320 .fp8e5m2) :
    (out0_4 x0 x1 x2 x3 : S3x20x640x160.Idx → EReal) = x0 := by
  unfold out0_4
  refine (View.canon_cons_unit_lit (S := S3x20x640x160) _ _ _ (by decide)).trans ?_
  unfold k0_pay1
  rw [View.ld_unit_lit (S := S3x20x640x160) _ _ (by decide), shapeCast_self]
  rfl

theorem left_0 : Value.reg_main_v4_0 m c = (bitcastToFloat (F := Ideal) .fp8e4m3 (m ((c : Thread nD τ).loc main_arg0)) : S3x20x640x160.Idx → EReal) := by
  unfold Value.reg_main_v4_0
  refine (dats m 0 c).arrAt_eq_of_covers 4 _ (by decide +kernel) fun t hf y => ?_
  blk_simp
  rw [after0_4]
  refine (congrFun (stored_0 _ _ _ _) y).trans ?_
  rw [place_4]
  unfold iblk
  show V m c main_v0 ((win0_0.blk t).view.emb y) = _
  rw [place_0, entry_0]

theorem entry_1 : (V m c main_v1 : S3x20x640x160.Idx → Elt Ideal .fp8e4m3) = bitcastToFloat (F := Ideal) .fp8e4m3 (m ((c : Thread nD τ).loc main_arg1)) := by
  show StableHlo.after hostOps0 _ (Proc.devRef .tc main_v1) = _
  after_results
  try rfl

theorem index_1 : ∀ t : Fin cfg0.N, win0_1.index t = ![0, 0, 0, 0] := (by decide +kernel : ∀ t : Fin grid0.N, _)

theorem index_5 : ∀ t : Fin cfg0.N, win0_5.index t = ![0, 0, 0, 0] := (by decide +kernel : ∀ t : Fin grid0.N, _)

theorem place_1 (t : Fin cfg0.N) (y : S3x20x640x160.Idx) : (win0_1.blk t).view.emb y = y := by
  funext a
  refine Fin.ext ((Pipeline.Window.rect_emb_val win0_1 t y a).trans ?_)
  rw [index_1]
  fin_cases a <;> exact (congrArg (· + _) (Nat.zero_mul _)).trans (Nat.zero_add _)

theorem place_5 (t : Fin cfg0.N) (y : S3x20x640x160.Idx) : (win0_5.blk t).view.emb y = y := by
  funext a
  refine Fin.ext ((Pipeline.Window.rect_emb_val win0_5 t y a).trans ?_)
  rw [index_5]
  fin_cases a <;> exact (congrArg (· + _) (Nat.zero_mul _)).trans (Nat.zero_add _)

theorem stored_1 (x0 x1 : Vec Ideal S3x20x640x160 .fp8e4m3) (x2 : Vec Ideal S3x20x640x320 .fp8e4m3) (x3 : Vec Ideal S3x20x640x320 .fp8e5m2) :
    (out0_5 x0 x1 x2 x3 : S3x20x640x160.Idx → EReal) = x1 := by
  unfold out0_5
  refine (View.canon_cons_unit_lit (S := S3x20x640x160) _ _ _ (by decide)).trans ?_
  unfold k0_pay2
  rw [View.ld_unit_lit (S := S3x20x640x160) _ _ (by decide), shapeCast_self]
  rfl

theorem left_1 : Value.reg_main_v4_1 m c = (bitcastToFloat (F := Ideal) .fp8e4m3 (m ((c : Thread nD τ).loc main_arg1)) : S3x20x640x160.Idx → EReal) := by
  unfold Value.reg_main_v4_1
  refine (dats m 0 c).arrAt_eq_of_covers 5 _ (by decide +kernel) fun t hf y => ?_
  blk_simp
  rw [after0_5]
  refine (congrFun (stored_1 _ _ _ _) y).trans ?_
  rw [place_5]
  unfold iblk
  show V m c main_v1 ((win0_1.blk t).view.emb y) = _
  rw [place_1, entry_1]

theorem entry_2 : (V m c main_v2 : S3x20x640x320.Idx → Elt Ideal .fp8e4m3) = bitcastToFloat (F := Ideal) .fp8e4m3 (m ((c : Thread nD τ).loc main_arg2)) := by
  show StableHlo.after hostOps0 _ (Proc.devRef .tc main_v2) = _
  after_results
  try rfl

theorem index_2 : ∀ t : Fin cfg0.N, win0_2.index t = ![0, 0, 0, 0] := (by decide +kernel : ∀ t : Fin grid0.N, _)

theorem index_6 : ∀ t : Fin cfg0.N, win0_6.index t = ![0, 0, 0, 0] := (by decide +kernel : ∀ t : Fin grid0.N, _)

theorem place_2 (t : Fin cfg0.N) (y : S3x20x640x320.Idx) : (win0_2.blk t).view.emb y = y := by
  funext a
  refine Fin.ext ((Pipeline.Window.rect_emb_val win0_2 t y a).trans ?_)
  rw [index_2]
  fin_cases a <;> exact (congrArg (· + _) (Nat.zero_mul _)).trans (Nat.zero_add _)

theorem place_6 (t : Fin cfg0.N) (y : S3x20x640x320.Idx) : (win0_6.blk t).view.emb y = y := by
  funext a
  refine Fin.ext ((Pipeline.Window.rect_emb_val win0_6 t y a).trans ?_)
  rw [index_6]
  fin_cases a <;> exact (congrArg (· + _) (Nat.zero_mul _)).trans (Nat.zero_add _)

theorem stored_2 (x0 x1 : Vec Ideal S3x20x640x160 .fp8e4m3) (x2 : Vec Ideal S3x20x640x320 .fp8e4m3) (x3 : Vec Ideal S3x20x640x320 .fp8e5m2) :
    (out0_6 x0 x1 x2 x3 : S3x20x640x320.Idx → EReal) = x2 := by
  unfold out0_6
  refine (View.canon_cons_unit_lit (S := S3x20x640x320) _ _ _ (by decide)).trans ?_
  unfold k0_pay3
  rw [View.ld_unit_lit (S := S3x20x640x320) _ _ (by decide), shapeCast_self]
  rfl

theorem left_2 : Value.reg_main_v4_2 m c = (bitcastToFloat (F := Ideal) .fp8e4m3 (m ((c : Thread nD τ).loc main_arg2)) : S3x20x640x320.Idx → EReal) := by
  unfold Value.reg_main_v4_2
  refine (dats m 0 c).arrAt_eq_of_covers 6 _ (by decide +kernel) fun t hf y => ?_
  blk_simp
  rw [after0_6]
  refine (congrFun (stored_2 _ _ _ _) y).trans ?_
  rw [place_6]
  unfold iblk
  show V m c main_v2 ((win0_2.blk t).view.emb y) = _
  rw [place_2, entry_2]

theorem entry_3 : (V m c main_v3 : S3x20x640x320.Idx → Elt Ideal .fp8e5m2) = bitcastToFloat (F := Ideal) .fp8e5m2 (m ((c : Thread nD τ).loc main_arg3)) := by
  show StableHlo.after hostOps0 _ (Proc.devRef .tc main_v3) = _
  after_results
  try rfl

theorem index_3 : ∀ t : Fin cfg0.N, win0_3.index t = ![0, 0, 0, 0] := (by decide +kernel : ∀ t : Fin grid0.N, _)

theorem index_7 : ∀ t : Fin cfg0.N, win0_7.index t = ![0, 0, 0, 0] := (by decide +kernel : ∀ t : Fin grid0.N, _)

theorem place_3 (t : Fin cfg0.N) (y : S3x20x640x320.Idx) : (win0_3.blk t).view.emb y = y := by
  funext a
  refine Fin.ext ((Pipeline.Window.rect_emb_val win0_3 t y a).trans ?_)
  rw [index_3]
  fin_cases a <;> exact (congrArg (· + _) (Nat.zero_mul _)).trans (Nat.zero_add _)

theorem place_7 (t : Fin cfg0.N) (y : S3x20x640x320.Idx) : (win0_7.blk t).view.emb y = y := by
  funext a
  refine Fin.ext ((Pipeline.Window.rect_emb_val win0_7 t y a).trans ?_)
  rw [index_7]
  fin_cases a <;> exact (congrArg (· + _) (Nat.zero_mul _)).trans (Nat.zero_add _)

theorem stored_3 (x0 x1 : Vec Ideal S3x20x640x160 .fp8e4m3) (x2 : Vec Ideal S3x20x640x320 .fp8e4m3) (x3 : Vec Ideal S3x20x640x320 .fp8e5m2) :
    (out0_7 x0 x1 x2 x3 : S3x20x640x320.Idx → EReal) = x3 := by
  unfold out0_7
  refine (View.canon_cons_unit_lit (S := S3x20x640x320) _ _ _ (by decide)).trans ?_
  unfold k0_pay4
  rw [View.ld_unit_lit (S := S3x20x640x320) _ _ (by decide), shapeCast_self]
  rfl

theorem left_3 : Value.reg_main_v4_3 m c = (bitcastToFloat (F := Ideal) .fp8e5m2 (m ((c : Thread nD τ).loc main_arg3)) : S3x20x640x320.Idx → EReal) := by
  unfold Value.reg_main_v4_3
  refine (dats m 0 c).arrAt_eq_of_covers 7 _ (by decide +kernel) fun t hf y => ?_
  blk_simp
  rw [after0_7]
  refine (congrFun (stored_3 _ _ _ _) y).trans ?_
  rw [place_7]
  unfold iblk
  show V m c main_v3 ((win0_3.blk t).view.emb y) = _
  rw [place_3, entry_3]

/-! ## The arguments as functions of natural numbers -/

/-- The queries. -/
abbrev argQ : ℕ → ℕ → ℕ → ℕ → EReal := feat (φ := .fp8e4m3) (bitcastToFloat (F := Ideal) .fp8e4m3 (m ((c : Thread nD τ).loc main_arg0)))
/-- The keys. -/
abbrev argK : ℕ → ℕ → ℕ → ℕ → EReal := feat (φ := .fp8e4m3) (bitcastToFloat (F := Ideal) .fp8e4m3 (m ((c : Thread nD τ).loc main_arg1)))
/-- The values. -/
abbrev argV : ℕ → ℕ → ℕ → ℕ → EReal := feat (φ := .fp8e4m3) (bitcastToFloat (F := Ideal) .fp8e4m3 (m ((c : Thread nD τ).loc main_arg2)))
/-- The cotangent. -/
abbrev argD : ℕ → ℕ → ℕ → ℕ → EReal := feat (φ := .fp8e5m2) (bitcastToFloat (F := Ideal) .fp8e5m2 (m ((c : Thread nD τ).loc main_arg3)))
/-- The scales of the queries. -/
abbrev argQs : ℕ → ℕ → ℕ → EReal := chunk (φ := .f32) (m ((c : Thread nD τ).loc main_arg4))
/-- The scales of the keys. -/
abbrev argKs : ℕ → ℕ → ℕ → EReal := chunk (φ := .f32) (m ((c : Thread nD τ).loc main_arg5))
/-- The scales of the values. -/
abbrev argVs : ℕ → ℕ → ℕ → EReal := chunk (φ := .f32) (m ((c : Thread nD τ).loc main_arg6))
/-- The scales of the cotangent. -/
abbrev argW : ℕ → ℕ → ℕ → EReal := num3 (φ := .f32) (m ((c : Thread nD τ).loc main_arg7))

theorem read_arg0 (y : S3x20x640x160.Idx) : (Value.reg_main_v4_0 m c y : EReal) = argQ m c (y 0).val (y 1).val (y 3).val (y 2).val := by
  rw [left_0]
  exact (num4_val _ y _ _ _ _ rfl rfl rfl rfl).symm

theorem read_arg1 (y : S3x20x640x160.Idx) : (Value.reg_main_v4_1 m c y : EReal) = argK m c (y 0).val (y 1).val (y 3).val (y 2).val := by
  rw [left_1]
  exact (num4_val _ y _ _ _ _ rfl rfl rfl rfl).symm

theorem read_arg2 (y : S3x20x640x320.Idx) : (Value.reg_main_v4_2 m c y : EReal) = argV m c (y 0).val (y 1).val (y 3).val (y 2).val := by
  rw [left_2]
  exact (num4_val _ y _ _ _ _ rfl rfl rfl rfl).symm

theorem read_arg3 (y : S3x20x640x320.Idx) : (Value.reg_main_v4_3 m c y : EReal) = argD m c (y 0).val (y 1).val (y 3).val (y 2).val := by
  rw [left_3]
  exact (num4_val _ y _ _ _ _ rfl rfl rfl rfl).symm

theorem read_arg4 (y : S3x20x5.Idx) : (m ((c.tc : Thread nD τ).loc main_arg4) y : EReal) = argQs m c (y 2).val (y 0).val (y 1).val :=
  (num3_val (φ := .f32) _ y _ _ _ rfl rfl rfl).symm

theorem read_arg5 (y : S3x20x5.Idx) : (m ((c.tc : Thread nD τ).loc main_arg5) y : EReal) = argKs m c (y 2).val (y 0).val (y 1).val :=
  (num3_val (φ := .f32) _ y _ _ _ rfl rfl rfl).symm

theorem read_arg6 (y : S3x20x5.Idx) : (m ((c.tc : Thread nD τ).loc main_arg6) y : EReal) = argVs m c (y 2).val (y 0).val (y 1).val :=
  (num3_val (φ := .f32) _ y _ _ _ rfl rfl rfl).symm

theorem read_arg7 (y : S3x20x640.Idx) : (m ((c.tc : Thread nD τ).loc main_arg7) y : EReal) = argW m c (y 0).val (y 1).val (y 2).val :=
  (num3_val (φ := .f32) _ y _ _ _ rfl rfl rfl).symm

/-! ## The results -/

/-- The gradient of the queries as returned. -/
def dq : S3x20x640x160.Idx → EReal := fun z =>
  chunkQ (argK m c) (argV m c) (argD m c) (argW m c) (argKs m c) (argVs m c) factor (z 0).val (z 1).val ((z 2).val / 128) ((z 2).val % 128) (z 3).val

/-- The gradient of the keys as returned. -/
def dk : S3x20x640x160.Idx → EReal := fun z =>
  chunkK (argQ m c) (argV m c) (argD m c) (argW m c) (argQs m c) (argVs m c) factor (z 0).val (z 1).val ((z 2).val / 128) ((z 2).val % 128) (z 3).val

/-- The gradient of the values as returned. -/
def dv : S3x20x640x320.Idx → EReal := fun z =>
  chunkV (argQ m c) (argK m c) (argD m c) (argW m c) (argQs m c) (argKs m c) factor (z 0).val (z 1).val ((z 2).val / 128) ((z 2).val % 128) (z 3).val

theorem result_dq : (Read.val_main_v78 (F := Ideal) (Value.exitV m c (Proc.devRef .tc main_arg5)) (Value.exitV m c (Proc.devRef .tc main_arg6)) (Value.exitV m c (Proc.devRef .tc main_arg7)) (Value.exitV m c (Proc.devRef .tc main_v4_1)) (Value.exitV m c (Proc.devRef .tc main_v4_2)) (Value.exitV m c (Proc.devRef .tc main_v4_3)) : S3x20x640x160.Idx → EReal) = dq m c := by
  rw [Value.exit_main_arg5, Value.exit_main_arg6, Value.exit_main_arg7, Value.exit_main_v4_1, Value.exit_main_v4_2, Value.exit_main_v4_3]
  funext z
  exact Read.read_v78 (read_arg1 m c) (read_arg2 m c) (read_arg3 m c) (read_arg5 m c) (read_arg6 m c) (read_arg7 m c) z

theorem result_dk : (Read.val_main_v80 (F := Ideal) (Value.exitV m c (Proc.devRef .tc main_arg4)) (Value.exitV m c (Proc.devRef .tc main_arg6)) (Value.exitV m c (Proc.devRef .tc main_arg7)) (Value.exitV m c (Proc.devRef .tc main_v4_0)) (Value.exitV m c (Proc.devRef .tc main_v4_2)) (Value.exitV m c (Proc.devRef .tc main_v4_3)) : S3x20x640x160.Idx → EReal) = dk m c := by
  rw [Value.exit_main_arg4, Value.exit_main_arg6, Value.exit_main_arg7, Value.exit_main_v4_0, Value.exit_main_v4_2, Value.exit_main_v4_3]
  funext z
  exact Read.read_v80 (read_arg0 m c) (read_arg2 m c) (read_arg3 m c) (read_arg4 m c) (read_arg6 m c) (read_arg7 m c) z

theorem result_dv : (Read.val_main_v82 (F := Ideal) (Value.exitV m c (Proc.devRef .tc main_arg4)) (Value.exitV m c (Proc.devRef .tc main_arg5)) (Value.exitV m c (Proc.devRef .tc main_arg7)) (Value.exitV m c (Proc.devRef .tc main_v4_0)) (Value.exitV m c (Proc.devRef .tc main_v4_1)) (Value.exitV m c (Proc.devRef .tc main_v4_3)) : S3x20x640x320.Idx → EReal) = dv m c := by
  rw [Value.exit_main_arg4, Value.exit_main_arg5, Value.exit_main_arg7, Value.exit_main_v4_0, Value.exit_main_v4_1, Value.exit_main_v4_3]
  funext z
  exact Read.read_v82 (read_arg0 m c) (read_arg1 m c) (read_arg3 m c) (read_arg4 m c) (read_arg5 m c) (read_arg7 m c) z

/-- Every run returns the three gradients and leaves its arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v78) = dq m c
      ∧ r.2.mem ((c.tc : Thread nD τ).loc main_v80) = dk m c
      ∧ r.2.mem ((c.tc : Thread nD τ).loc main_v82) = dv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono ?_ (Value.run m ρ)
  rintro r hr c
  obtain ⟨h0, h1, h2, h⟩ := hr c
  exact ⟨(h0.trans (Read.val_main_v78_eq (Value.exitV m c))).trans (result_dq m c),
    (h1.trans (Read.val_main_v80_eq (Value.exitV m c))).trans (result_dk m c),
    (h2.trans (Read.val_main_v82_eq (Value.exitV m c))).trans (result_dv m c), h⟩

end Cert.ReferenceIdeal.Gen

end
-- ==== Proof.Finite.lean ====
/-
  What the precondition says: every code of the four large inputs denotes a real number, and every scale is one.
-/
module

public import proofs.«01_k».proof.Proof.Chunked
public import proofs.«01_k».proof.Pre_finite
public import Idealize.ShloMosaic.Lib.ReduceAll
public import Idealize.ShloMosaic.Lib.Pointwise.ElementwiseCore

@[expose] public section

set_option maxRecDepth 16384

noncomputable section

namespace Cert.Value

open Idealize.ShloMosaic Cert.Pre_finite

/-! ## One element -/

theorem code_e4m3 : ∀ b : BitVec 8, IntOp.cmpi .slt (IntOp.andi (b.signExtend 32) 127#32) 127#32 = 1#1 →
    ¬((b.extractLsb' 3 4).toNat = 15 ∧ (b.extractLsb' 0 3).toNat = 7) := by decide +kernel

theorem code_e5m2 : ∀ b : BitVec 8, IntOp.cmpi .slt (IntOp.andi (b.signExtend 32) 127#32) 124#32 = 1#1 →
    (b.extractLsb' 2 5).toNat ≠ 2 ^ 5 - 1 := by decide +kernel

/-- A code of the format without infinities whose magnitude is below that of the junk code denotes a real number. -/
theorem real_e4m3 (b : BitVec 8) (h : IntOp.cmpi .slt (IntOp.andi (b.signExtend 32) 127#32) 127#32 = 1#1) :
    ∃ x : ℝ, (FloatOps.ofBits (F := Ideal) .fp8e4m3 b : EReal) = (x : EReal) := by
  show ∃ x : ℝ, Ideal.e4m3fn b = _
  unfold Ideal.e4m3fn
  dsimp only
  rw [if_neg (code_e4m3 b h)]
  split
  · exact ⟨_, rfl⟩
  · exact ⟨_, rfl⟩

/-- A code of the format with infinities whose magnitude is below that of infinity denotes a real number. -/
theorem real_e5m2 (b : BitVec 8) (h : IntOp.cmpi .slt (IntOp.andi (b.signExtend 32) 127#32) 124#32 = 1#1) :
    ∃ x : ℝ, (FloatOps.ofBits (F := Ideal) .fp8e5m2 b : EReal) = (x : EReal) := ieee_real 5 2 b (code_e5m2 b h)

/-- A scale whose absolute value is below infinity is a real number. -/
theorem real_f32 (x : EReal) (h : FloatOps.cmpf (F := Ideal) (φ := .f32) .olt (FloatOps.hostAbsf (F := Ideal) (φ := .f32) x) (FloatOps.ofBits .f32 0x7F800000#32) = 1#1) :
    ∃ r : ℝ, x = (r : EReal) := by
  have htop : (FloatOps.ofBits (F := Ideal) .f32 0x7F800000#32 : EReal) = ⊤ := by
    show Ideal.ieee 8 23 (0x7F800000#32) = ⊤
    unfold Ideal.ieee
    dsimp only
    rw [if_pos (by decide), if_pos (by decide), if_neg (by decide)]
  rw [htop] at h
  have hlt : max x (-x) < ⊤ := by
    by_contra hn
    have h0 : Ideal.cmp .olt (max x (-x)) ⊤ = 1#1 := h
    simp [Ideal.cmp, hn] at h0
  induction x using EReal.rec with
  | bot => simp at hlt
  | coe r => exact ⟨r, rfl⟩
  | top => simp at hlt

/-! ## Arrays -/

theorem real4_feat {n0 n1 n2 n3 : ℕ} {φ : FTy} (X : FVec Ideal ⟨4, ![n0, n1, n2, n3]⟩ φ) (h : ∀ i, ∃ x : ℝ, (X i : EReal) = (x : EReal)) : Real4 (feat X) := by
  have key : ∀ b h' e t, ∃ x : ℝ, feat X b h' e t = (x : EReal) := by
    intro b h' e t
    unfold feat num4
    split
    · exact h _
    · exact ⟨0, EReal.coe_zero.symm⟩
  choose x hx using key
  exact ⟨x, by funext b h' e t; exact hx b h' e t⟩

theorem real3_num3 {n0 n1 n2 : ℕ} {φ : FTy} (X : FVec Ideal ⟨3, ![n0, n1, n2]⟩ φ) (h : ∀ i, ∃ x : ℝ, (X i : EReal) = (x : EReal)) : Real3 (num3 X) := by
  have key : ∀ a b c, ∃ x : ℝ, num3 X a b c = (x : EReal) := by
    intro a b c
    unfold num3
    split
    · exact h _
    · exact ⟨0, EReal.coe_zero.symm⟩
  choose x hx using key
  exact ⟨x, by funext a b c; exact hx a b c⟩

theorem real3_chunk {n0 n1 n2 : ℕ} {φ : FTy} (X : FVec Ideal ⟨3, ![n0, n1, n2]⟩ φ) (h : ∀ i, ∃ x : ℝ, (X i : EReal) = (x : EReal)) : Real3 (chunk X) := by
  obtain ⟨x, hx⟩ := real3_num3 X h
  refine ⟨fun n b h' => x b h' n, ?_⟩
  funext n b h'
  exact congrFun (congrFun (congrFun hx b) h') n

instance : Subsingleton S_.Idx := ⟨fun _ _ => funext fun a => a.elim0⟩

section
variable [Facts] {a0 a1 : IVec S3x20x640x160 8} {a2 a3 : IVec S3x20x640x320 8} {a4 a5 a6 : FVec Ideal S3x20x5 .f32} {a7 : FVec Ideal S3x20x640 .f32}

/-- Under the precondition every input is real. -/
theorem finite_inputs (h : Cert.Pre_finite.fn (F := Ideal) a0 a1 a2 a3 a4 a5 a6 a7 = fun _ => 1#1) :
    Real4 (feat (φ := .fp8e4m3) (bitcastToFloat (F := Ideal) .fp8e4m3 a0)) ∧ Real4 (feat (φ := .fp8e4m3) (bitcastToFloat (F := Ideal) .fp8e4m3 a1))
      ∧ Real4 (feat (φ := .fp8e4m3) (bitcastToFloat (F := Ideal) .fp8e4m3 a2)) ∧ Real4 (feat (φ := .fp8e5m2) (bitcastToFloat (F := Ideal) .fp8e5m2 a3))
      ∧ Real3 (chunk (φ := .f32) a4) ∧ Real3 (chunk (φ := .f32) a5) ∧ Real3 (chunk (φ := .f32) a6) ∧ Real3 (num3 (φ := .f32) a7) := by
  have e := congrFun h (fun a => a.elim0)
  unfold Cert.Pre_finite.fn fn_part1 fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real4_feat _ fun i => real_e4m3 _ (Host.reduce_andi_all _ _ _ _ _ e0 i), real4_feat _ fun i => real_e4m3 _ (Host.reduce_andi_all _ _ _ _ _ e1 i),
    real4_feat _ fun i => real_e4m3 _ (Host.reduce_andi_all _ _ _ _ _ e2 i), real4_feat _ fun i => real_e5m2 _ (Host.reduce_andi_all _ _ _ _ _ e3 i),
    real3_chunk _ fun i => real_f32 _ (Host.reduce_andi_all _ _ _ _ _ e4 i), real3_chunk _ fun i => real_f32 _ (Host.reduce_andi_all _ _ _ _ _ e5 i),
    real3_chunk _ fun i => real_f32 _ (Host.reduce_andi_all _ _ _ _ _ e6 i), real3_num3 _ fun i => real_f32 _ (Host.reduce_andi_all _ _ _ _ _ e7 i)⟩

end

end Cert.Value

end
-- ==== Proof.Equal.lean ====
/-
  The kernel and the reference return the same three gradients when every input is a real number.
-/
module

public import proofs.«01_k».proof.Proof.Results
public import proofs.«01_k».proof.Proof.RefRun
public import proofs.«01_k».proof.Proof.Finite
public import proofs.«01_k».proof.Defs

@[expose] public section

set_option maxRecDepth 16384

noncomputable section

namespace Cert.Value

open Idealize.ShloMosaic Idealize.ShloMosaic.TcCoe Idealize.SL.Sem

/-- A position is its chunk's first position and the place in the chunk. -/
theorem position (t : ℕ) : t = 128 * (t / 128) + t % 128 := (Nat.div_add_mod t 128).symm

variable [Cert.Pre_finite.Facts]
  (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (hpre : Pre_KernelIdeal_finite m)
  (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7))
include hpre h

/-- The gradients of the queries are equal. -/
theorem equal_dq (c : Dev KernelIdeal.nD) : ReferenceIdeal.Gen.dq m' c = KernelIdeal.Gen.dq m c := by
  obtain ⟨_, hK, hV, hD, _, hks, hvs, hW⟩ := finite_inputs (hpre c)
  obtain ⟨_, e1, e2, e3, _, e5, e6, e7⟩ := h c
  funext z
  have hz : (z 2).val < 640 := (z 2).isLt
  unfold ReferenceIdeal.Gen.dq KernelIdeal.Gen.dq ReferenceIdeal.Gen.argK ReferenceIdeal.Gen.argV ReferenceIdeal.Gen.argD ReferenceIdeal.Gen.argW
    ReferenceIdeal.Gen.argKs ReferenceIdeal.Gen.argVs
  rw [e1, e2, e3, e5, e6, e7]
  refine (wholeQ_eq hK hV hD hW hks hvs _ _ _ _ _ (by omega) (Nat.mod_lt _ (by omega))).symm.trans ?_
  rw [← position]

/-- The gradients of the keys are equal. -/
theorem equal_dk (c : Dev KernelIdeal.nD) : ReferenceIdeal.Gen.dk m' c = KernelIdeal.Gen.dk m c := by
  obtain ⟨hQ, _, hV, hD, hqs, _, hvs, hW⟩ := finite_inputs (hpre c)
  obtain ⟨e0, _, e2, e3, e4, _, e6, e7⟩ := h c
  funext z
  have hz : (z 2).val < 640 := (z 2).isLt
  unfold ReferenceIdeal.Gen.dk KernelIdeal.Gen.dk ReferenceIdeal.Gen.argQ ReferenceIdeal.Gen.argV ReferenceIdeal.Gen.argD ReferenceIdeal.Gen.argW
    ReferenceIdeal.Gen.argQs ReferenceIdeal.Gen.argVs
  rw [e0, e2, e3, e4, e6, e7]
  refine (wholeK_eq hQ hV hD hW hqs hvs _ _ _ _ _ (by omega) (Nat.mod_lt _ (by omega))).symm.trans ?_
  rw [← position]

/-- The gradients of the values are equal. -/
theorem equal_dv (c : Dev KernelIdeal.nD) : ReferenceIdeal.Gen.dv m' c = KernelIdeal.Gen.dv m c := by
  obtain ⟨hQ, hK, _, hD, hqs, hks, _, hW⟩ := finite_inputs (hpre c)
  obtain ⟨e0, e1, _, e3, e4, e5, _, e7⟩ := h c
  funext z
  have hz : (z 2).val < 640 := (z 2).isLt
  unfold ReferenceIdeal.Gen.dv KernelIdeal.Gen.dv ReferenceIdeal.Gen.argQ ReferenceIdeal.Gen.argK ReferenceIdeal.Gen.argD ReferenceIdeal.Gen.argW
    ReferenceIdeal.Gen.argQs ReferenceIdeal.Gen.argKs
  rw [e0, e1, e3, e4, e5, e7]
  refine (wholeV_eq hQ hK hD hW hqs hks _ _ _ _ _ (by omega) (Nat.mod_lt _ (by omega))).symm.trans ?_
  rw [← position]

end Cert.Value

end
-- ==== Proof.lean ====
module

public import proofs.«01_k».proof.Defs
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial,
  fun m g m' g' hpre h => ⟨Cert.KernelIdeal.Gen.dq m, Cert.KernelIdeal.Gen.dk m, Cert.KernelIdeal.Gen.dv m, Cert.KernelIdeal.Gen.run_results m g,
    (θ_run _ _ _).mono (fun _ hr c =>
      ⟨(hr c).1.trans (Cert.Value.equal_dq m m' hpre h c), (hr c).2.1.trans (Cert.Value.equal_dk m m' hpre h c),
        (hr c).2.2.1.trans (Cert.Value.equal_dv m m' hpre h c), (hr c).2.2.2⟩) (Cert.ReferenceIdeal.Gen.run_results m' g')⟩⟩

end Cert.Proof

end
